-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_stats_nonnegative [hPre_stats_nonnegative : Cert.Pre_stats_nonnegative.Facts] (m : (ℓ : Loc Cert.MainIdeal.nD Cert.MainIdeal.τ Cert.MainIdeal.sig) → Buf (Elt Ideal) ℓ) : Prop :=
  ∀ c : Dev Cert.MainIdeal.nD,
    (Cert.Pre_stats_nonnegative.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)) (m ((c.tc : Thread Cert.MainIdeal.nD Cert.MainIdeal.τ).loc Cert.MainIdeal.main_arg9)) (m ((c.tc : Thread Cert.MainIdeal.nD Cert.MainIdeal.τ).loc Cert.MainIdeal.main_arg10)) (m ((c.tc : Thread Cert.MainIdeal.nD Cert.MainIdeal.τ).loc Cert.MainIdeal.main_arg11))).1 = (fun _ => 1#1)
    ∧ (Cert.Pre_stats_nonnegative.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)) (m ((c.tc : Thread Cert.MainIdeal.nD Cert.MainIdeal.τ).loc Cert.MainIdeal.main_arg9)) (m ((c.tc : Thread Cert.MainIdeal.nD Cert.MainIdeal.τ).loc Cert.MainIdeal.main_arg10)) (m ((c.tc : Thread Cert.MainIdeal.nD Cert.MainIdeal.τ).loc Cert.MainIdeal.main_arg11))).2.1 = (fun _ => 1#1)
    ∧ (Cert.Pre_stats_nonnegative.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3)) (m ((c.tc : Thread Cert.MainIdeal.nD Cert.MainIdeal.τ).loc Cert.MainIdeal.main_arg4)) (m ((c.tc : Thread Cert.MainIdeal.nD Cert.MainIdeal.τ).loc Cert.MainIdeal.main_arg5)) (m ((c.tc : Thread Cert.MainIdeal.nD Cert.MainIdeal.τ).loc Cert.MainIdeal.main_arg6)) (m ((c.tc : Thread Cert.MainIdeal.nD Cert.MainIdeal.τ).loc Cert.MainIdeal.main_arg7)) (m ((c.tc : Thread Cert.MainIdeal.nD Cert.MainIdeal.τ).loc Cert.MainIdeal.main_arg8)) (m ((c.tc : Thread Cert.MainIdeal.nD Cert.MainIdeal.τ).loc Cert.MainIdeal.main_arg9)) (m ((c.tc : Thread Cert.MainIdeal.nD Cert.MainIdeal.τ).loc Cert.MainIdeal.main_arg10)) (m ((c.tc : Thread Cert.MainIdeal.nD Cert.MainIdeal.τ).loc Cert.MainIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_stats_nonnegative [hPre_stats_nonnegative : Cert.Pre_stats_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stats_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_stats_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_stats_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7)
      ∧ r.2.mem ((c.tc : Thread Cert.Main.nD Cert.Main.τ).loc Cert.Main.main_arg8) = m ((c.tc : Thread Cert.Main.nD Cert.Main.τ).loc Cert.Main.main_arg8)
      ∧ r.2.mem ((c.tc : Thread Cert.Main.nD Cert.Main.τ).loc Cert.Main.main_arg9) = m ((c.tc : Thread Cert.Main.nD Cert.Main.τ).loc Cert.Main.main_arg9)
      ∧ r.2.mem ((c.tc : Thread Cert.Main.nD Cert.Main.τ).loc Cert.Main.main_arg10) = m ((c.tc : Thread Cert.Main.nD Cert.Main.τ).loc Cert.Main.main_arg10)
      ∧ r.2.mem ((c.tc : Thread Cert.Main.nD Cert.Main.τ).loc Cert.Main.main_arg11) = m ((c.tc : Thread Cert.Main.nD Cert.Main.τ).loc Cert.Main.main_arg11))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
      ∧ r.2.mem ((c.tc : Thread Cert.MainIdeal.nD Cert.MainIdeal.τ).loc Cert.MainIdeal.main_arg10) = m ((c.tc : Thread Cert.MainIdeal.nD Cert.MainIdeal.τ).loc Cert.MainIdeal.main_arg10)
      ∧ r.2.mem ((c.tc : Thread Cert.MainIdeal.nD Cert.MainIdeal.τ).loc Cert.MainIdeal.main_arg11) = m ((c.tc : Thread Cert.MainIdeal.nD Cert.MainIdeal.τ).loc Cert.MainIdeal.main_arg11))
      ∧ r.2.sem = fun _ => 0)

def quiescent_MainIdeal_pre_stats_nonnegative [hMainIdeal : Cert.MainIdeal.Facts] [hPre_stats_nonnegative : Cert.Pre_stats_nonnegative.Facts] : Prop :=
  ∀ (m : (ℓ : Loc Cert.MainIdeal.nD Cert.MainIdeal.τ Cert.MainIdeal.sig) → Buf (Elt Ideal) ℓ) (g : Dev Cert.MainIdeal.nD → PrngReg), Pre_MainIdeal_stats_nonnegative m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
      ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
      ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
      ∧ r.2.mem ((c.tc : Thread Cert.MainIdeal.nD Cert.MainIdeal.τ).loc Cert.MainIdeal.main_arg10) = m ((c.tc : Thread Cert.MainIdeal.nD Cert.MainIdeal.τ).loc Cert.MainIdeal.main_arg10)
      ∧ r.2.mem ((c.tc : Thread Cert.MainIdeal.nD Cert.MainIdeal.τ).loc Cert.MainIdeal.main_arg11) = m ((c.tc : Thread Cert.MainIdeal.nD Cert.MainIdeal.τ).loc Cert.MainIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_stats_nonnegative [hReferenceIdeal : Cert.ReferenceIdeal.Facts] [hPre_stats_nonnegative : Cert.Pre_stats_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stats_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Main_MainIdeal : Prop :=
  IdealRules.named_const.Statement Cert.MainIdeal.κ "v_norm_new" .f32 0x3F4CCCCD#32 ((4 / 5 : ℝ) : EReal)
  ∧ IdealRules.named_const.Statement Cert.MainIdeal.κ "m_norm" .f32 0x3A3C14E6#32 ((9 / 12544 : ℝ) : EReal)
  ∧ IdealRules.named_const.Statement Cert.MainIdeal.κ "one_minus_beta2" .f32 0x3D4CCCCD#32 ((1 / 20 : ℝ) : EReal)
  ∧ IdealRules.named_const.Statement Cert.MainIdeal.κ "one_minus_beta1" .f32 0x3DCCCCCD#32 ((1 / 10 : ℝ) : EReal)
  ∧ IdealRules.named_const.Statement Cert.MainIdeal.κ "tiny" .f32 0x00800000#32 ⊥

def algebraic_MainIdeal_ReferenceIdeal_pre_stats_nonnegative [hMainIdeal : Cert.MainIdeal.Facts] [hReferenceIdeal : Cert.ReferenceIdeal.Facts] [hPre_stats_nonnegative : Cert.Pre_stats_nonnegative.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_MainIdeal_stats_nonnegative m →
    (∀ c : Dev Cert.MainIdeal.nD,
      m' ((c.tc : Thread Cert.ReferenceIdeal.nD Cert.ReferenceIdeal.τ).loc Cert.ReferenceIdeal.main_arg0) = m ((c.tc : Thread Cert.MainIdeal.nD Cert.MainIdeal.τ).loc Cert.MainIdeal.main_arg0)
      ∧ m' ((c.tc : Thread Cert.ReferenceIdeal.nD Cert.ReferenceIdeal.τ).loc Cert.ReferenceIdeal.main_arg1) = m ((c.tc : Thread Cert.MainIdeal.nD Cert.MainIdeal.τ).loc Cert.MainIdeal.main_arg1)
      ∧ m' ((c.tc : Thread Cert.ReferenceIdeal.nD Cert.ReferenceIdeal.τ).loc Cert.ReferenceIdeal.main_arg2) = m ((c.tc : Thread Cert.MainIdeal.nD Cert.MainIdeal.τ).loc Cert.MainIdeal.main_arg2)
      ∧ m' ((c.tc : Thread Cert.ReferenceIdeal.nD Cert.ReferenceIdeal.τ).loc Cert.ReferenceIdeal.main_arg3) = m ((c.tc : Thread Cert.MainIdeal.nD Cert.MainIdeal.τ).loc Cert.MainIdeal.main_arg3)
      ∧ m' ((c.tc : Thread Cert.ReferenceIdeal.nD Cert.ReferenceIdeal.τ).loc Cert.ReferenceIdeal.main_arg4) = m ((c.tc : Thread Cert.MainIdeal.nD Cert.MainIdeal.τ).loc Cert.MainIdeal.main_arg4)
      ∧ m' ((c.tc : Thread Cert.ReferenceIdeal.nD Cert.ReferenceIdeal.τ).loc Cert.ReferenceIdeal.main_arg5) = m ((c.tc : Thread Cert.MainIdeal.nD Cert.MainIdeal.τ).loc Cert.MainIdeal.main_arg5)
      ∧ m' ((c.tc : Thread Cert.ReferenceIdeal.nD Cert.ReferenceIdeal.τ).loc Cert.ReferenceIdeal.main_arg6) = m ((c.tc : Thread Cert.MainIdeal.nD Cert.MainIdeal.τ).loc Cert.MainIdeal.main_arg6)
      ∧ m' ((c.tc : Thread Cert.ReferenceIdeal.nD Cert.ReferenceIdeal.τ).loc Cert.ReferenceIdeal.main_arg7) = m ((c.tc : Thread Cert.MainIdeal.nD Cert.MainIdeal.τ).loc Cert.MainIdeal.main_arg7)
      ∧ m' ((c.tc : Thread Cert.ReferenceIdeal.nD Cert.ReferenceIdeal.τ).loc Cert.ReferenceIdeal.main_arg8) = m ((c.tc : Thread Cert.MainIdeal.nD Cert.MainIdeal.τ).loc Cert.MainIdeal.main_arg8)
      ∧ m' ((c.tc : Thread Cert.ReferenceIdeal.nD Cert.ReferenceIdeal.τ).loc Cert.ReferenceIdeal.main_arg9) = m ((c.tc : Thread Cert.MainIdeal.nD Cert.MainIdeal.τ).loc Cert.MainIdeal.main_arg9)
      ∧ m' ((c.tc : Thread Cert.ReferenceIdeal.nD Cert.ReferenceIdeal.τ).loc Cert.ReferenceIdeal.main_arg10) = m ((c.tc : Thread Cert.MainIdeal.nD Cert.MainIdeal.τ).loc Cert.MainIdeal.main_arg10)
      ∧ m' ((c.tc : Thread Cert.ReferenceIdeal.nD Cert.ReferenceIdeal.τ).loc Cert.ReferenceIdeal.main_arg11) = m ((c.tc : Thread Cert.MainIdeal.nD Cert.MainIdeal.τ).loc Cert.MainIdeal.main_arg11)) →
    ∃ (v0 : (c : Dev Cert.MainIdeal.nD) → Buf (Elt Ideal) ((c.tc : Thread Cert.MainIdeal.nD Cert.MainIdeal.τ).loc Cert.MainIdeal.main_v5_0)) (v1 : (c : Dev Cert.MainIdeal.nD) → Buf (Elt Ideal) ((c.tc : Thread Cert.MainIdeal.nD Cert.MainIdeal.τ).loc Cert.MainIdeal.main_v5_1)) (v2 : (c : Dev Cert.MainIdeal.nD) → Buf (Elt Ideal) ((c.tc : Thread Cert.MainIdeal.nD Cert.MainIdeal.τ).loc Cert.MainIdeal.main_v5_2)) (v3 : (c : Dev Cert.MainIdeal.nD) → Buf (Elt Ideal) ((c.tc : Thread Cert.MainIdeal.nD Cert.MainIdeal.τ).loc Cert.MainIdeal.main_v5_3)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v5_0) = v0 c
          ∧ r.2.mem ((c.tc : Thread Cert.MainIdeal.nD Cert.MainIdeal.τ).loc Cert.MainIdeal.main_v5_1) = v1 c
          ∧ r.2.mem ((c.tc : Thread Cert.MainIdeal.nD Cert.MainIdeal.τ).loc Cert.MainIdeal.main_v5_2) = v2 c
          ∧ r.2.mem ((c.tc : Thread Cert.MainIdeal.nD Cert.MainIdeal.τ).loc Cert.MainIdeal.main_v5_3) = v3 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7)
          ∧ r.2.mem ((c.tc : Thread Cert.MainIdeal.nD Cert.MainIdeal.τ).loc Cert.MainIdeal.main_arg8) = m ((c.tc : Thread Cert.MainIdeal.nD Cert.MainIdeal.τ).loc Cert.MainIdeal.main_arg8)
          ∧ r.2.mem ((c.tc : Thread Cert.MainIdeal.nD Cert.MainIdeal.τ).loc Cert.MainIdeal.main_arg9) = m ((c.tc : Thread Cert.MainIdeal.nD Cert.MainIdeal.τ).loc Cert.MainIdeal.main_arg9)
          ∧ r.2.mem ((c.tc : Thread Cert.MainIdeal.nD Cert.MainIdeal.τ).loc Cert.MainIdeal.main_arg10) = m ((c.tc : Thread Cert.MainIdeal.nD Cert.MainIdeal.τ).loc Cert.MainIdeal.main_arg10)
          ∧ r.2.mem ((c.tc : Thread Cert.MainIdeal.nD Cert.MainIdeal.τ).loc Cert.MainIdeal.main_arg11) = m ((c.tc : Thread Cert.MainIdeal.nD Cert.MainIdeal.τ).loc Cert.MainIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hMain : Cert.Main.Facts) (hMainIdeal : Cert.MainIdeal.Facts) (hReferenceIdeal : Cert.ReferenceIdeal.Facts) (hPre_stats_nonnegative : Cert.Pre_stats_nonnegative.Facts),
    quiescent_Main (hMain := hMain)
    ∧ quiescent_MainIdeal (hMainIdeal := hMainIdeal)
    ∧ quiescent_MainIdeal_pre_stats_nonnegative (hMainIdeal := hMainIdeal) (hPre_stats_nonnegative := hPre_stats_nonnegative)
    ∧ quiescent_ReferenceIdeal (hReferenceIdeal := hReferenceIdeal)
    ∧ quiescent_ReferenceIdeal_pre_stats_nonnegative (hReferenceIdeal := hReferenceIdeal) (hPre_stats_nonnegative := hPre_stats_nonnegative)
    ∧ preserves_Main_MainIdeal
    ∧ algebraic_MainIdeal_ReferenceIdeal_pre_stats_nonnegative (hMainIdeal := hMainIdeal) (hReferenceIdeal := hReferenceIdeal) (hPre_stats_nonnegative := hPre_stats_nonnegative)
-- ==== Pre_stats_nonnegative.lean ====
abbrev S3x5504x4096 : Shape := ⟨3, ![3, 5504, 4096]⟩
abbrev S3x5504x2048 : Shape := ⟨3, ![3, 5504, 2048]⟩
abbrev S3x5504x32 : Shape := ⟨3, ![3, 5504, 32]⟩
abbrev S3x5504 : Shape := ⟨2, ![3, 5504]⟩
abbrev S3x4096 : Shape := ⟨2, ![3, 4096]⟩
abbrev S3 : Shape := ⟨1, ![3]⟩
abbrev S_ : Shape := ⟨0, ![]⟩

class Facts : Prop where
  bcast_S_S3x5504 : S_.BroadcastsInDim S3x5504 (![] : Fin 0 → Fin S3x5504.rank)
  bcast_S_S3x4096 : S_.BroadcastsInDim S3x4096 (![] : Fin 0 → Fin S3x4096.rank)
  bcast_S_S3 : S_.BroadcastsInDim S3 (![] : Fin 0 → Fin S3.rank)

variable [Facts]

def fn {F : FTy → Type} [FloatOps F] (main_arg0 : FVec F S3x5504x4096 .bf16) (main_arg1 : FVec F S3x5504x4096 .bf16) (main_arg2 : IVec S3x5504x2048 8) (main_arg3 : FVec F S3x5504x32 .f32) (main_arg4 : IVec S3x5504x2048 8) (main_arg5 : FVec F S3x5504 .f32) (main_arg6 : FVec F S3x4096 .f32) (main_arg7 : FVec F S3x5504 .f32) (main_arg8 : FVec F S3x4096 .f32) (main_arg9 : IVec S3 32) (main_arg10 : FVec F S3 .f32) (main_arg11 : FVec F S3 .f32) : IVec S3x5504 1 × IVec S3x4096 1 × IVec S3 1 :=
  let main_cst : FVec F S_ .f32 := constant S_ .f32 0x00000000#32
  let main_v0 : FVec F S3x5504 .f32 := broadcastInDim S3x5504 ![] bcast_S_S3x5504 main_cst
  let main_v1 : IVec S3x5504 1 := cmpf .oge main_arg5 main_v0
  let main_cst_0 : FVec F S_ .f32 := constant S_ .f32 0x00000000#32
  let main_v2 : FVec F S3x4096 .f32 := broadcastInDim S3x4096 ![] bcast_S_S3x4096 main_cst_0
  let main_v3 : IVec S3x4096 1 := cmpf .oge main_arg6 main_v2
  let main_c : IVec S_ 32 := constantI S_ 32 1#32
  let main_v4 : IVec S3 32 := broadcastInDim S3 ![] bcast_S_S3 main_c
  let main_v5 : IVec S3 1 := cmpi .sge main_arg9 main_v4
  (main_v1, main_v3, main_v5)
-- ==== Main.lean ====
abbrev S3x5504x4096 : Shape := ⟨3, ![3, 5504, 4096]⟩
abbrev S3x5504x2048 : Shape := ⟨3, ![3, 5504, 2048]⟩
abbrev S3x5504x32 : Shape := ⟨3, ![3, 5504, 32]⟩
abbrev S3x5504 : Shape := ⟨2, ![3, 5504]⟩
abbrev S3x4096 : Shape := ⟨2, ![3, 4096]⟩
abbrev S3 : Shape := ⟨1, ![3]⟩
abbrev S16512x4096 : Shape := ⟨2, ![16512, 4096]⟩
abbrev S16512x2048 : Shape := ⟨2, ![16512, 2048]⟩
abbrev S16512x32 : Shape := ⟨2, ![16512, 32]⟩
abbrev S3x43x32 : Shape := ⟨3, ![3, 43, 32]⟩
abbrev S128x4096 : Shape := ⟨2, ![128, 4096]⟩
abbrev S128x2048 : Shape := ⟨2, ![128, 2048]⟩
abbrev S128x32 : Shape := ⟨2, ![128, 32]⟩
abbrev S128x128 : Shape := ⟨2, ![128, 128]⟩
abbrev S8x4096 : Shape := ⟨2, ![8, 4096]⟩
abbrev S32x8x128 : Shape := ⟨3, ![32, 8, 128]⟩
abbrev S32x128 : Shape := ⟨2, ![32, 128]⟩
abbrev S1x4096 : Shape := ⟨2, ![1, 4096]⟩
abbrev S3x128 : Shape := ⟨2, ![3, 128]⟩
abbrev S1x128 : Shape := ⟨2, ![1, 128]⟩
abbrev S1 : Shape := ⟨1, ![1]⟩
abbrev S8x128 : Shape := ⟨2, ![8, 128]⟩
abbrev S1x8x128 : Shape := ⟨3, ![1, 8, 128]⟩
abbrev S4x8x128 : Shape := ⟨3, ![4, 8, 128]⟩
abbrev S32x1 : Shape := ⟨2, ![32, 1]⟩
abbrev S4x8 : Shape := ⟨2, ![4, 8]⟩
abbrev S4x8x1 : Shape := ⟨3, ![4, 8, 1]⟩
abbrev S32 : Shape := ⟨1, ![32]⟩
abbrev S1x32 : Shape := ⟨2, ![1, 32]⟩
abbrev S1x1x32 : Shape := ⟨3, ![1, 1, 32]⟩

abbrev nBuf : Space → Nat
  | .hbm => 24
  | .vmem => 35
  | .smem => 3
  | _ => 0

abbrev bufTy : (tb : Table) → Fin (tcTables nBuf tb) → BufTy
  | .hbm, ⟨0, _⟩ => ⟨S3x5504x4096, .bf16⟩
  | .hbm, ⟨1, _⟩ => ⟨S3x5504x4096, .bf16⟩
  | .hbm, ⟨2, _⟩ => ⟨S3x5504x2048, .i8⟩
  | .hbm, ⟨3, _⟩ => ⟨S3x5504x32, .f32⟩
  | .hbm, ⟨4, _⟩ => ⟨S3x5504x2048, .i8⟩
  | .hbm, ⟨5, _⟩ => ⟨S3x5504, .f32⟩
  | .hbm, ⟨6, _⟩ => ⟨S3x4096, .f32⟩
  | .hbm, ⟨7, _⟩ => ⟨S3x5504, .f32⟩
  | .hbm, ⟨8, _⟩ => ⟨S3x4096, .f32⟩
  | .hbm, ⟨9, _⟩ => ⟨S3, .i32⟩
  | .hbm, ⟨10, _⟩ => ⟨S3, .f32⟩
  | .hbm, ⟨11, _⟩ => ⟨S3, .f32⟩
  | .hbm, ⟨12, _⟩ => ⟨S16512x4096, .bf16⟩
  | .hbm, ⟨13, _⟩ => ⟨S16512x4096, .bf16⟩
  | .hbm, ⟨14, _⟩ => ⟨S16512x2048, .i8⟩
  | .hbm, ⟨15, _⟩ => ⟨S16512x32, .f32⟩
  | .hbm, ⟨16, _⟩ => ⟨S16512x2048, .i8⟩
  | .hbm, ⟨17, _⟩ => ⟨S16512x4096, .bf16⟩
  | .hbm, ⟨18, _⟩ => ⟨S16512x4096, .bf16⟩
  | .hbm, ⟨19, _⟩ => ⟨S16512x2048, .i8⟩
  | .hbm, ⟨20, _⟩ => ⟨S16512x32, .f32⟩
  | .hbm, ⟨21, _⟩ => ⟨S16512x2048, .i8⟩
  | .hbm, ⟨22, _⟩ => ⟨S16512x4096, .fp8e4m3⟩
  | .hbm, ⟨23, _⟩ => ⟨S3x43x32, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x2048, .i8⟩
  | .local _ .vmem, ⟨5, _⟩ => ⟨S128x2048, .i8⟩
  | .local _ .vmem, ⟨6, _⟩ => ⟨S128x32, .f32⟩
  | .local _ .vmem, ⟨7, _⟩ => ⟨S128x32, .f32⟩
  | .local _ .vmem, ⟨8, _⟩ => ⟨S128x2048, .i8⟩
  | .local _ .vmem, ⟨9, _⟩ => ⟨S128x2048, .i8⟩
  | .local _ .vmem, ⟨10, _⟩ => ⟨S3x5504, .f32⟩
  | .local _ .vmem, ⟨11, _⟩ => ⟨S3x4096, .f32⟩
  | .local _ .vmem, ⟨12, _⟩ => ⟨S3x5504, .f32⟩
  | .local _ .vmem, ⟨13, _⟩ => ⟨S3x4096, .f32⟩
  | .local _ .vmem, ⟨14, _⟩ => ⟨S128x4096, .bf16⟩
  | .local _ .vmem, ⟨15, _⟩ => ⟨S128x4096, .bf16⟩
  | .local _ .vmem, ⟨16, _⟩ => ⟨S128x4096, .bf16⟩
  | .local _ .vmem, ⟨17, _⟩ => ⟨S128x4096, .bf16⟩
  | .local _ .vmem, ⟨18, _⟩ => ⟨S128x2048, .i8⟩
  | .local _ .vmem, ⟨19, _⟩ => ⟨S128x2048, .i8⟩
  | .local _ .vmem, ⟨20, _⟩ => ⟨S128x32, .f32⟩
  | .local _ .vmem, ⟨21, _⟩ => ⟨S128x32, .f32⟩
  | .local _ .vmem, ⟨22, _⟩ => ⟨S128x2048, .i8⟩
  | .local _ .vmem, ⟨23, _⟩ => ⟨S128x2048, .i8⟩
  | .local _ .vmem, ⟨24, _⟩ => ⟨S128x4096, .fp8e4m3⟩
  | .local _ .vmem, ⟨25, _⟩ => ⟨S128x4096, .fp8e4m3⟩
  | .local _ .vmem, ⟨26, _⟩ => ⟨S3x43x32, .f32⟩
  | .local _ .vmem, ⟨27, _⟩ => ⟨S128x128, .f32⟩
  | .local _ .vmem, ⟨28, _⟩ => ⟨S128x128, .f32⟩
  | .local _ .vmem, ⟨29, _⟩ => ⟨S8x4096, .f32⟩
  | .local _ .vmem, ⟨30, _⟩ => ⟨S8x4096, .f32⟩
  | .local _ .vmem, ⟨31, _⟩ => ⟨S128x32, .f32⟩
  | .local _ .vmem, ⟨32, _⟩ => ⟨S128x4096, .f32⟩
  | .local _ .vmem, ⟨33, _⟩ => ⟨S32x8x128, .f32⟩
  | .local _ .vmem, ⟨34, _⟩ => ⟨S32x128, .f32⟩
  | .local _ .smem, ⟨0, _⟩ => ⟨S3, .i32⟩
  | .local _ .smem, ⟨1, _⟩ => ⟨S3, .f32⟩
  | .local _ .smem, ⟨2, _⟩ => ⟨S3, .f32⟩
  | _, _ => ⟨S3x5504x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29

abbrev nD : Nat := 1
abbrev τ : Topo := Topo.v7x

variable {F : FTy → Type} [FloatOps F]

abbrev grid0 : Pipeline.Grid := ⟨1, ![129], ![false]⟩

def k0_mult1 (i : grid0.Coords) : BitVec 32 :=
  let arg0 : BitVec 32 := BitVec.ofNat 32 (i 0).val
  let c43_i32_4 : BitVec 32 := 43#32
  let c0_i32_5 : BitVec 32 := 0#32
  let v17 : BitVec 1 := Scalar.cmpi .eq c43_i32_4 c0_i32_5
  let c1_i32_6 : BitVec 32 := 1#32
  let v18 : BitVec 32 := Scalar.select v17 c1_i32_6 c43_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v26 c128_i32
  v27
def k0_cond1 (i : grid0.Coords) : BitVec 1 :=
  let arg0 : BitVec 32 := BitVec.ofNat 32 (i 0).val
  let c43_i32_4 : BitVec 32 := 43#32
  let c0_i32_5 : BitVec 32 := 0#32
  let v17 : BitVec 1 := Scalar.cmpi .eq c43_i32_4 c0_i32_5
  let c1_i32_6 : BitVec 32 := 1#32
  let v18 : BitVec 32 := Scalar.select v17 c1_i32_6 c43_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v29 : BitVec 1 := Scalar.cmpi .eq v26 c0_i32_10
  let v30 : BitVec 32 := Scalar.extui v29
  let c0_i32_11 : BitVec 32 := 0#32
  let v31 : BitVec 1 := Scalar.cmpi .ne v30 c0_i32_11
  v31

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c43_i32 : BitVec 32 := 43#32
  let c0_i32_1 : BitVec 32 := 0#32
  let v6 : BitVec 1 := Scalar.cmpi .sgt c43_i32 c0_i32_1
  let v7 : BitVec 32 := Scalar.extui v6
  let c0_i32_2 : BitVec 32 := 0#32
  let v8 : BitVec 1 := Scalar.cmpi .slt c43_i32 c0_i32_2
  let v9 : BitVec 32 := Scalar.extui v8
  let v10 : BitVec 32 := Scalar.subi v7 v9
  let v11 : BitVec 1 := Scalar.cmpi .ne v5 v10
  let v12 : BitVec 32 := Scalar.remsi arg0 c43_i32
  let c0_i32_3 : BitVec 32 := 0#32
  let v13 : BitVec 1 := Scalar.cmpi .ne v12 c0_i32_3
  let v14 : BitVec 1 := Scalar.andi v11 v13
  let v0 : BitVec 32 := Scalar.divsi arg0 c43_i32
  let c1_i32 : BitVec 32 := 1#32
  let v15 : BitVec 32 := Scalar.subi v0 c1_i32
  let v16 : BitVec 32 := Scalar.select v14 v15 v0
  let v215 : Index := Scalar.indexCast v16
  let c0_77 : Index := 0#32
  ![v215.toNat, 0]
def k0_off2 (i : grid0.Coords) : Fin 2 → Nat :=
  let c0 : Index := 0#32
  let arg0 : BitVec 32 := BitVec.ofNat 32 (i 0).val
  let c43_i32_4 : BitVec 32 := 43#32
  let c0_i32_5 : BitVec 32 := 0#32
  let v17 : BitVec 1 := Scalar.cmpi .eq c43_i32_4 c0_i32_5
  let c1_i32_6 : BitVec 32 := 1#32
  let v18 : BitVec 32 := Scalar.select v17 c1_i32_6 c43_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32 : BitVec 32 := 128#32
  let v27 : BitVec 32 := Scalar.muli v26 c128_i32
  let v28 : BitVec 32 := v27
  let v32 : Index := Scalar.indexCast v28
  ![0, v32.toNat]
def k0_off3 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c43_i32 : BitVec 32 := 43#32
  let c0_i32_1 : BitVec 32 := 0#32
  let v6 : BitVec 1 := Scalar.cmpi .sgt c43_i32 c0_i32_1
  let v7 : BitVec 32 := Scalar.extui v6
  let c0_i32_2 : BitVec 32 := 0#32
  let v8 : BitVec 1 := Scalar.cmpi .slt c43_i32 c0_i32_2
  let v9 : BitVec 32 := Scalar.extui v8
  let v10 : BitVec 32 := Scalar.subi v7 v9
  let v11 : BitVec 1 := Scalar.cmpi .ne v5 v10
  let v12 : BitVec 32 := Scalar.remsi arg0 c43_i32
  let c0_i32_3 : BitVec 32 := 0#32
  let v13 : BitVec 1 := Scalar.cmpi .ne v12 c0_i32_3
  let v14 : BitVec 1 := Scalar.andi v11 v13
  let v0 : BitVec 32 := Scalar.divsi arg0 c43_i32
  let c1_i32 : BitVec 32 := 1#32
  let v15 : BitVec 32 := Scalar.subi v0 c1_i32
  let v16 : BitVec 32 := Scalar.select v14 v15 v0
  let v81 : Index := Scalar.indexCast v16
  ![v81.toNat]
@[reducible] def k0_t1_loop : Scf.Loop 32 :=
  let c0_i32_44 : BitVec 32 := 0#32
  let c4_i32 : BitVec 32 := 4#32
  let v123 : BitVec 32 := Scalar.addi c0_i32_44 c4_i32
  let c1_i32_45 : BitVec 32 := 1#32
  ⟨c0_i32_44, v123, c1_i32_45⟩
def k0_mult2 (k0_t1 : Fin k0_t1_loop.trips) : BitVec 32 :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  v218
def k0_off4 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v220 : Index := Scalar.indexCast v219
  let c0_79 : Index := 0#32
  ![v220.toNat, 0]
def k0_off5 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v224 : Index := Scalar.indexCast v219
  let c0_81 : Index := 0#32
  ![v224.toNat, 0]
def k0_off6 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v274 : Index := Scalar.indexCast v219
  let c0_92 : Index := 0#32
  ![v274.toNat, 0]
def k0_off7 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v279 : Index := Scalar.indexCast v219
  let c0_93 : Index := 0#32
  ![v279.toNat, 0]
def k0_off8 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v384 : Index := Scalar.indexCast v219
  let c128 : Index := 128#32
  ![v384.toNat, 128]
def k0_off9 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v389 : Index := Scalar.indexCast v219
  let c1 : Index := 1#32
  ![v389.toNat, 1]
def k0_off10 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v534 : Index := Scalar.indexCast v219
  let c128_169 : Index := 128#32
  ![v534.toNat, 128]
def k0_off11 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v584 : Index := Scalar.indexCast v219
  let c256 : Index := 256#32
  ![v584.toNat, 256]
def k0_off12 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v589 : Index := Scalar.indexCast v219
  let c2 : Index := 2#32
  ![v589.toNat, 2]
def k0_off13 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v694 : Index := Scalar.indexCast v219
  let c384 : Index := 384#32
  ![v694.toNat, 384]
def k0_off14 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v699 : Index := Scalar.indexCast v219
  let c3 : Index := 3#32
  ![v699.toNat, 3]
def k0_off15 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v844 : Index := Scalar.indexCast v219
  let c256_259 : Index := 256#32
  ![v844.toNat, 256]
def k0_off16 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v894 : Index := Scalar.indexCast v219
  let c512 : Index := 512#32
  ![v894.toNat, 512]
def k0_off17 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v899 : Index := Scalar.indexCast v219
  let c4 : Index := 4#32
  ![v899.toNat, 4]
def k0_off18 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1004 : Index := Scalar.indexCast v219
  let c640 : Index := 640#32
  ![v1004.toNat, 640]
def k0_off19 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1009 : Index := Scalar.indexCast v219
  let c5 : Index := 5#32
  ![v1009.toNat, 5]
def k0_off20 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1154 : Index := Scalar.indexCast v219
  let c384_349 : Index := 384#32
  ![v1154.toNat, 384]
def k0_off21 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1204 : Index := Scalar.indexCast v219
  let c768 : Index := 768#32
  ![v1204.toNat, 768]
def k0_off22 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1209 : Index := Scalar.indexCast v219
  let c6 : Index := 6#32
  ![v1209.toNat, 6]
def k0_off23 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1314 : Index := Scalar.indexCast v219
  let c896 : Index := 896#32
  ![v1314.toNat, 896]
def k0_off24 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1319 : Index := Scalar.indexCast v219
  let c7 : Index := 7#32
  ![v1319.toNat, 7]
def k0_off25 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1464 : Index := Scalar.indexCast v219
  let c512_439 : Index := 512#32
  ![v1464.toNat, 512]
def k0_off26 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1514 : Index := Scalar.indexCast v219
  let c1024 : Index := 1024#32
  ![v1514.toNat, 1024]
def k0_off27 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1519 : Index := Scalar.indexCast v219
  let c8 : Index := 8#32
  ![v1519.toNat, 8]
def k0_off28 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1624 : Index := Scalar.indexCast v219
  let c1152 : Index := 1152#32
  ![v1624.toNat, 1152]
def k0_off29 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1629 : Index := Scalar.indexCast v219
  let c9 : Index := 9#32
  ![v1629.toNat, 9]
def k0_off30 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1774 : Index := Scalar.indexCast v219
  let c640_529 : Index := 640#32
  ![v1774.toNat, 640]
def k0_off31 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1824 : Index := Scalar.indexCast v219
  let c1280 : Index := 1280#32
  ![v1824.toNat, 1280]
def k0_off32 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1829 : Index := Scalar.indexCast v219
  let c10 : Index := 10#32
  ![v1829.toNat, 10]
def k0_off33 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1934 : Index := Scalar.indexCast v219
  let c1408 : Index := 1408#32
  ![v1934.toNat, 1408]
def k0_off34 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v1939 : Index := Scalar.indexCast v219
  let c11 : Index := 11#32
  ![v1939.toNat, 11]
def k0_off35 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2084 : Index := Scalar.indexCast v219
  let c768_619 : Index := 768#32
  ![v2084.toNat, 768]
def k0_off36 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2134 : Index := Scalar.indexCast v219
  let c1536 : Index := 1536#32
  ![v2134.toNat, 1536]
def k0_off37 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2139 : Index := Scalar.indexCast v219
  let c12 : Index := 12#32
  ![v2139.toNat, 12]
def k0_off38 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2244 : Index := Scalar.indexCast v219
  let c1664 : Index := 1664#32
  ![v2244.toNat, 1664]
def k0_off39 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2249 : Index := Scalar.indexCast v219
  let c13 : Index := 13#32
  ![v2249.toNat, 13]
def k0_off40 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2394 : Index := Scalar.indexCast v219
  let c896_709 : Index := 896#32
  ![v2394.toNat, 896]
def k0_off41 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2444 : Index := Scalar.indexCast v219
  let c1792 : Index := 1792#32
  ![v2444.toNat, 1792]
def k0_off42 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2449 : Index := Scalar.indexCast v219
  let c14 : Index := 14#32
  ![v2449.toNat, 14]
def k0_off43 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2554 : Index := Scalar.indexCast v219
  let c1920 : Index := 1920#32
  ![v2554.toNat, 1920]
def k0_off44 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2559 : Index := Scalar.indexCast v219
  let c15 : Index := 15#32
  ![v2559.toNat, 15]
def k0_off45 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2704 : Index := Scalar.indexCast v219
  let c1024_799 : Index := 1024#32
  ![v2704.toNat, 1024]
def k0_off46 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2754 : Index := Scalar.indexCast v219
  let c2048 : Index := 2048#32
  ![v2754.toNat, 2048]
def k0_off47 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2759 : Index := Scalar.indexCast v219
  let c16 : Index := 16#32
  ![v2759.toNat, 16]
def k0_off48 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2864 : Index := Scalar.indexCast v219
  let c2176 : Index := 2176#32
  ![v2864.toNat, 2176]
def k0_off49 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v2869 : Index := Scalar.indexCast v219
  let c17 : Index := 17#32
  ![v2869.toNat, 17]
def k0_off50 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3014 : Index := Scalar.indexCast v219
  let c1152_889 : Index := 1152#32
  ![v3014.toNat, 1152]
def k0_off51 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3064 : Index := Scalar.indexCast v219
  let c2304 : Index := 2304#32
  ![v3064.toNat, 2304]
def k0_off52 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3069 : Index := Scalar.indexCast v219
  let c18 : Index := 18#32
  ![v3069.toNat, 18]
def k0_off53 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3174 : Index := Scalar.indexCast v219
  let c2432 : Index := 2432#32
  ![v3174.toNat, 2432]
def k0_off54 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3179 : Index := Scalar.indexCast v219
  let c19 : Index := 19#32
  ![v3179.toNat, 19]
def k0_off55 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3324 : Index := Scalar.indexCast v219
  let c1280_979 : Index := 1280#32
  ![v3324.toNat, 1280]
def k0_off56 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3374 : Index := Scalar.indexCast v219
  let c2560 : Index := 2560#32
  ![v3374.toNat, 2560]
def k0_off57 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3379 : Index := Scalar.indexCast v219
  let c20 : Index := 20#32
  ![v3379.toNat, 20]
def k0_off58 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3484 : Index := Scalar.indexCast v219
  let c2688 : Index := 2688#32
  ![v3484.toNat, 2688]
def k0_off59 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3489 : Index := Scalar.indexCast v219
  let c21 : Index := 21#32
  ![v3489.toNat, 21]
def k0_off60 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3634 : Index := Scalar.indexCast v219
  let c1408_1069 : Index := 1408#32
  ![v3634.toNat, 1408]
def k0_off61 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3684 : Index := Scalar.indexCast v219
  let c2816 : Index := 2816#32
  ![v3684.toNat, 2816]
def k0_off62 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3689 : Index := Scalar.indexCast v219
  let c22 : Index := 22#32
  ![v3689.toNat, 22]
def k0_off63 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3794 : Index := Scalar.indexCast v219
  let c2944 : Index := 2944#32
  ![v3794.toNat, 2944]
def k0_off64 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3799 : Index := Scalar.indexCast v219
  let c23 : Index := 23#32
  ![v3799.toNat, 23]
def k0_off65 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3944 : Index := Scalar.indexCast v219
  let c1536_1159 : Index := 1536#32
  ![v3944.toNat, 1536]
def k0_off66 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3994 : Index := Scalar.indexCast v219
  let c3072 : Index := 3072#32
  ![v3994.toNat, 3072]
def k0_off67 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v3999 : Index := Scalar.indexCast v219
  let c24 : Index := 24#32
  ![v3999.toNat, 24]
def k0_off68 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4104 : Index := Scalar.indexCast v219
  let c3200 : Index := 3200#32
  ![v4104.toNat, 3200]
def k0_off69 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4109 : Index := Scalar.indexCast v219
  let c25 : Index := 25#32
  ![v4109.toNat, 25]
def k0_off70 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4254 : Index := Scalar.indexCast v219
  let c1664_1249 : Index := 1664#32
  ![v4254.toNat, 1664]
def k0_off71 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4304 : Index := Scalar.indexCast v219
  let c3328 : Index := 3328#32
  ![v4304.toNat, 3328]
def k0_off72 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4309 : Index := Scalar.indexCast v219
  let c26 : Index := 26#32
  ![v4309.toNat, 26]
def k0_off73 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4414 : Index := Scalar.indexCast v219
  let c3456 : Index := 3456#32
  ![v4414.toNat, 3456]
def k0_off74 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4419 : Index := Scalar.indexCast v219
  let c27 : Index := 27#32
  ![v4419.toNat, 27]
def k0_off75 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4564 : Index := Scalar.indexCast v219
  let c1792_1339 : Index := 1792#32
  ![v4564.toNat, 1792]
def k0_off76 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4614 : Index := Scalar.indexCast v219
  let c3584 : Index := 3584#32
  ![v4614.toNat, 3584]
def k0_off77 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4619 : Index := Scalar.indexCast v219
  let c28 : Index := 28#32
  ![v4619.toNat, 28]
def k0_off78 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4724 : Index := Scalar.indexCast v219
  let c3712 : Index := 3712#32
  ![v4724.toNat, 3712]
def k0_off79 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4729 : Index := Scalar.indexCast v219
  let c29 : Index := 29#32
  ![v4729.toNat, 29]
def k0_off80 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4874 : Index := Scalar.indexCast v219
  let c1920_1429 : Index := 1920#32
  ![v4874.toNat, 1920]
def k0_off81 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4924 : Index := Scalar.indexCast v219
  let c3840 : Index := 3840#32
  ![v4924.toNat, 3840]
def k0_off82 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v4929 : Index := Scalar.indexCast v219
  let c30 : Index := 30#32
  ![v4929.toNat, 30]
def k0_off83 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v5034 : Index := Scalar.indexCast v219
  let c3968 : Index := 3968#32
  ![v5034.toNat, 3968]
def k0_off84 (k0_t1 : Fin k0_t1_loop.trips) : Fin 2 → Nat :=
  let c0_i32_44 : BitVec 32 := 0#32
  let c1_i32_45 : BitVec 32 := 1#32
  let arg28 : BitVec 32 := Scf.iv c0_i32_44 c1_i32_45 k0_t1
  let c32_i32_78 : BitVec 32 := 32#32
  let v218 : BitVec 32 := Scalar.muli arg28 c32_i32_78
  let v219 : BitVec 32 := v218
  let v5039 : Index := Scalar.indexCast v219
  let c31 : Index := 31#32
  ![v5039.toNat, 31]
def k0_off85 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c43_i32 : BitVec 32 := 43#32
  let c0_i32_1 : BitVec 32 := 0#32
  let v6 : BitVec 1 := Scalar.cmpi .sgt c43_i32 c0_i32_1
  let v7 : BitVec 32 := Scalar.extui v6
  let c0_i32_2 : BitVec 32 := 0#32
  let v8 : BitVec 1 := Scalar.cmpi .slt c43_i32 c0_i32_2
  let v9 : BitVec 32 := Scalar.extui v8
  let v10 : BitVec 32 := Scalar.subi v7 v9
  let v11 : BitVec 1 := Scalar.cmpi .ne v5 v10
  let v12 : BitVec 32 := Scalar.remsi arg0 c43_i32
  let c0_i32_3 : BitVec 32 := 0#32
  let v13 : BitVec 1 := Scalar.cmpi .ne v12 c0_i32_3
  let v14 : BitVec 1 := Scalar.andi v11 v13
  let v0 : BitVec 32 := Scalar.divsi arg0 c43_i32
  let c1_i32 : BitVec 32 := 1#32
  let v15 : BitVec 32 := Scalar.subi v0 c1_i32
  let v16 : BitVec 32 := Scalar.select v14 v15 v0
  let v211 : Index := Scalar.indexCast v16
  let c43_i32_4 : BitVec 32 := 43#32
  let c0_i32_5 : BitVec 32 := 0#32
  let v17 : BitVec 1 := Scalar.cmpi .eq c43_i32_4 c0_i32_5
  let c1_i32_6 : BitVec 32 := 1#32
  let v18 : BitVec 32 := Scalar.select v17 c1_i32_6 c43_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v212 : Index := Scalar.indexCast v26
  let c0_72 : Index := 0#32
  ![v211.toNat, v212.toNat, 0]
@[reducible] def k0_t2_loop : Scf.Loop 32 :=
  let c0_i32_73 : BitVec 32 := 0#32
  let c4_i32_74 : BitVec 32 := 4#32
  let v214 : BitVec 32 := Scalar.addi c0_i32_73 c4_i32_74
  let c1_i32_75 : BitVec 32 := 1#32
  ⟨c0_i32_73, v214, c1_i32_75⟩
def k0_mult3 (k0_t2 : Fin k0_t2_loop.trips) : BitVec 32 :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  v215
def k0_off86 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v217 : Index := Scalar.indexCast v216
  let c0_78 : Index := 0#32
  ![v217.toNat, 0]
def k0_off87 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v229 : Index := Scalar.indexCast v216
  let c128 : Index := 128#32
  ![v229.toNat, 128]
def k0_off88 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v241 : Index := Scalar.indexCast v216
  let c256 : Index := 256#32
  ![v241.toNat, 256]
def k0_off89 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v253 : Index := Scalar.indexCast v216
  let c384 : Index := 384#32
  ![v253.toNat, 384]
def k0_off90 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v265 : Index := Scalar.indexCast v216
  let c512 : Index := 512#32
  ![v265.toNat, 512]
def k0_off91 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v277 : Index := Scalar.indexCast v216
  let c640 : Index := 640#32
  ![v277.toNat, 640]
def k0_off92 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v289 : Index := Scalar.indexCast v216
  let c768 : Index := 768#32
  ![v289.toNat, 768]
def k0_off93 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v301 : Index := Scalar.indexCast v216
  let c896 : Index := 896#32
  ![v301.toNat, 896]
def k0_off94 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v313 : Index := Scalar.indexCast v216
  let c1024 : Index := 1024#32
  ![v313.toNat, 1024]
def k0_off95 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v325 : Index := Scalar.indexCast v216
  let c1152 : Index := 1152#32
  ![v325.toNat, 1152]
def k0_off96 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v337 : Index := Scalar.indexCast v216
  let c1280 : Index := 1280#32
  ![v337.toNat, 1280]
def k0_off97 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v349 : Index := Scalar.indexCast v216
  let c1408 : Index := 1408#32
  ![v349.toNat, 1408]
def k0_off98 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v361 : Index := Scalar.indexCast v216
  let c1536 : Index := 1536#32
  ![v361.toNat, 1536]
def k0_off99 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v373 : Index := Scalar.indexCast v216
  let c1664 : Index := 1664#32
  ![v373.toNat, 1664]
def k0_off100 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v385 : Index := Scalar.indexCast v216
  let c1792 : Index := 1792#32
  ![v385.toNat, 1792]
def k0_off101 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v397 : Index := Scalar.indexCast v216
  let c1920 : Index := 1920#32
  ![v397.toNat, 1920]
def k0_off102 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v409 : Index := Scalar.indexCast v216
  let c2048 : Index := 2048#32
  ![v409.toNat, 2048]
def k0_off103 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v421 : Index := Scalar.indexCast v216
  let c2176 : Index := 2176#32
  ![v421.toNat, 2176]
def k0_off104 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v433 : Index := Scalar.indexCast v216
  let c2304 : Index := 2304#32
  ![v433.toNat, 2304]
def k0_off105 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v445 : Index := Scalar.indexCast v216
  let c2432 : Index := 2432#32
  ![v445.toNat, 2432]
def k0_off106 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v457 : Index := Scalar.indexCast v216
  let c2560 : Index := 2560#32
  ![v457.toNat, 2560]
def k0_off107 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v469 : Index := Scalar.indexCast v216
  let c2688 : Index := 2688#32
  ![v469.toNat, 2688]
def k0_off108 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v481 : Index := Scalar.indexCast v216
  let c2816 : Index := 2816#32
  ![v481.toNat, 2816]
def k0_off109 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v493 : Index := Scalar.indexCast v216
  let c2944 : Index := 2944#32
  ![v493.toNat, 2944]
def k0_off110 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v505 : Index := Scalar.indexCast v216
  let c3072 : Index := 3072#32
  ![v505.toNat, 3072]
def k0_off111 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v517 : Index := Scalar.indexCast v216
  let c3200 : Index := 3200#32
  ![v517.toNat, 3200]
def k0_off112 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v529 : Index := Scalar.indexCast v216
  let c3328 : Index := 3328#32
  ![v529.toNat, 3328]
def k0_off113 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v541 : Index := Scalar.indexCast v216
  let c3456 : Index := 3456#32
  ![v541.toNat, 3456]
def k0_off114 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v553 : Index := Scalar.indexCast v216
  let c3584 : Index := 3584#32
  ![v553.toNat, 3584]
def k0_off115 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v565 : Index := Scalar.indexCast v216
  let c3712 : Index := 3712#32
  ![v565.toNat, 3712]
def k0_off116 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v577 : Index := Scalar.indexCast v216
  let c3840 : Index := 3840#32
  ![v577.toNat, 3840]
def k0_off117 (k0_t2 : Fin k0_t2_loop.trips) : Fin 2 → Nat :=
  let c0_i32_73 : BitVec 32 := 0#32
  let c1_i32_75 : BitVec 32 := 1#32
  let arg28 : BitVec 32 := Scf.iv c0_i32_73 c1_i32_75 k0_t2
  let c32_i32_77 : BitVec 32 := 32#32
  let v215 : BitVec 32 := Scalar.muli arg28 c32_i32_77
  let v216 : BitVec 32 := v215
  let v589 : Index := Scalar.indexCast v216
  let c3968 : Index := 3968#32
  ![v589.toNat, 3968]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x5504 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x5504 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x4096 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S3x43x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MainIdeal.lean ====
variable {F : FTy → Type} [FloatOps F] [Named F]
def κ : String → Option EReal := fun
  | "m_norm" => some ((9 / 12544 : ℝ) : EReal)
  | "one_minus_beta1" => some ((1 / 10 : ℝ) : EReal)
  | "one_minus_beta2" => some ((1 / 20 : ℝ) : EReal)
  | "tiny" => some ⊥
  | "v_norm_new" => some ((4 / 5 : ℝ) : EReal)
  | _ => none
-- ==== ReferenceIdeal.lean ====
abbrev S3x5504x4096 : Shape := ⟨3, ![3, 5504, 4096]⟩
abbrev S3x5504x2048 : Shape := ⟨3, ![3, 5504, 2048]⟩
abbrev S3x5504x32 : Shape := ⟨3, ![3, 5504, 32]⟩
abbrev S3x5504 : Shape := ⟨2, ![3, 5504]⟩
abbrev S3x4096 : Shape := ⟨2, ![3, 4096]⟩
abbrev S3 : Shape := ⟨1, ![3]⟩
abbrev S3x5504x32x1x64 : Shape := ⟨5, ![3, 5504, 32, 1, 64]⟩
abbrev S_ : Shape := ⟨0, ![]⟩
abbrev S3x5504x32x2x64 : Shape := ⟨5, ![3, 5504, 32, 2, 64]⟩
abbrev S3x5504x32x1 : Shape := ⟨4, ![3, 5504, 32, 1]⟩
abbrev S3x5504x32x128 : Shape := ⟨4, ![3, 5504, 32, 128]⟩
abbrev S3x5504x1 : Shape := ⟨3, ![3, 5504, 1]⟩
abbrev S3x1x4096 : Shape := ⟨3, ![3, 1, 4096]⟩
abbrev S3x1x1 : Shape := ⟨3, ![3, 1, 1]⟩
abbrev S16512x4096 : Shape := ⟨2, ![16512, 4096]⟩
abbrev S3x5504x32x64 : Shape := ⟨4, ![3, 5504, 32, 64]⟩
abbrev S16512x2048 : Shape := ⟨2, ![16512, 2048]⟩
abbrev S16512x32 : Shape := ⟨2, ![16512, 32]⟩

abbrev nBuf : Space → Nat
  | .hbm => 169
  | .vmem => 0
  | .smem => 0
  | _ => 0

abbrev hbmTy0_0 (i : Nat) : BufTy := match i % 128 with
  | 0 => ⟨S3x5504x4096, .bf16⟩
  | 1 => ⟨S3x5504x4096, .bf16⟩
  | 2 => ⟨S3x5504x2048, .i8⟩
  | 3 => ⟨S3x5504x32, .f32⟩
  | 4 => ⟨S3x5504x2048, .i8⟩
  | 5 => ⟨S3x5504, .f32⟩
  | 6 => ⟨S3x4096, .f32⟩
  | 7 => ⟨S3x5504, .f32⟩
  | 8 => ⟨S3x4096, .f32⟩
  | 9 => ⟨S3, .i32⟩
  | 10 => ⟨S3, .f32⟩
  | 11 => ⟨S3, .f32⟩
  | 12 => ⟨S3x5504x4096, .f32⟩
  | 13 => ⟨S3x5504x2048, .i32⟩
  | 14 => ⟨S3x5504x32x1x64, .i32⟩
  | 15 => ⟨S_, .i32⟩
  | 16 => ⟨S3x5504x32x1x64, .i32⟩
  | 17 => ⟨S3x5504x32x1x64, .i32⟩
  | 18 => ⟨S_, .i32⟩
  | 19 => ⟨S3x5504x32x1x64, .i32⟩
  | 20 => ⟨S3x5504x32x1x64, .i32⟩
  | 21 => ⟨S3x5504x32x2x64, .i32⟩
  | 22 => ⟨S3x5504x4096, .i32⟩
  | 23 => ⟨S_, .i32⟩
  | 24 => ⟨S3x5504x4096, .i32⟩
  | 25 => ⟨S3x5504x4096, .i32⟩
  | 26 => ⟨S_, .i32⟩
  | 27 => ⟨S3x5504x4096, .i32⟩
  | 28 => ⟨S3x5504x4096, .i32⟩
  | 29 => ⟨S3x5504x4096, .f32⟩
  | 30 => ⟨S3x5504x32x1, .f32⟩
  | 31 => ⟨S3x5504x32x128, .f32⟩
  | 32 => ⟨S3x5504x4096, .f32⟩
  | 33 => ⟨S_, .f32⟩
  | 34 => ⟨S_, .f32⟩
  | 35 => ⟨S_, .f32⟩
  | 36 => ⟨S3x5504x4096, .f32⟩
  | 37 => ⟨S3x5504x4096, .f32⟩
  | 38 => ⟨S_, .f32⟩
  | 39 => ⟨S3x5504x4096, .f32⟩
  | 40 => ⟨S3x5504x4096, .f32⟩
  | 41 => ⟨S3x5504x4096, .f32⟩
  | 42 => ⟨S3x5504x4096, .f32⟩
  | 43 => ⟨S3x5504x4096, .f32⟩
  | 44 => ⟨S_, .f32⟩
  | 45 => ⟨S_, .f32⟩
  | 46 => ⟨S_, .f32⟩
  | 47 => ⟨S3x5504x4096, .f32⟩
  | 48 => ⟨S3x5504x4096, .f32⟩
  | 49 => ⟨S3x5504x4096, .f32⟩
  | 50 => ⟨S3x5504x2048, .i32⟩
  | 51 => ⟨S3x5504x32x1x64, .i32⟩
  | 52 => ⟨S_, .i32⟩
  | 53 => ⟨S3x5504x32x1x64, .i32⟩
  | 54 => ⟨S3x5504x32x1x64, .i32⟩
  | 55 => ⟨S_, .i32⟩
  | 56 => ⟨S3x5504x32x1x64, .i32⟩
  | 57 => ⟨S3x5504x32x1x64, .i32⟩
  | 58 => ⟨S3x5504x32x2x64, .i32⟩
  | 59 => ⟨S3x5504x4096, .i32⟩
  | 60 => ⟨S3x5504x4096, .f32⟩
  | 61 => ⟨S3x5504x1, .f32⟩
  | 62 => ⟨S3x1x4096, .f32⟩
  | 63 => ⟨S3x5504x4096, .f32⟩
  | 64 => ⟨S3x5504x4096, .f32⟩
  | 65 => ⟨S3x5504x4096, .f32⟩
  | 66 => ⟨S_, .f32⟩
  | 67 => ⟨S_, .f32⟩
  | 68 => ⟨S_, .f32⟩
  | 69 => ⟨S_, .f32⟩
  | 70 => ⟨S3x5504x4096, .f32⟩
  | 71 => ⟨S3x5504x4096, .f32⟩
  | 72 => ⟨S_, .f32⟩
  | 73 => ⟨S3x5504x4096, .f32⟩
  | 74 => ⟨S3x5504x4096, .f32⟩
  | 75 => ⟨S3x5504x4096, .f32⟩
  | 76 => ⟨S3x5504x4096, .f32⟩
  | 77 => ⟨S3x5504x4096, .f32⟩
  | 78 => ⟨S_, .f32⟩
  | 79 => ⟨S_, .f32⟩
  | 80 => ⟨S_, .f32⟩
  | 81 => ⟨S3x5504x4096, .f32⟩
  | 82 => ⟨S3x5504x4096, .f32⟩
  | 83 => ⟨S3x5504x4096, .f32⟩
  | 84 => ⟨S3x5504x4096, .f32⟩
  | 85 => ⟨S3, .f32⟩
  | 86 => ⟨S3x1x1, .f32⟩
  | 87 => ⟨S_, .f32⟩
  | 88 => ⟨S3x1x1, .f32⟩
  | 89 => ⟨S3x1x1, .f32⟩
  | 90 => ⟨S3x1x1, .f32⟩
  | 91 => ⟨S3x1x1, .f32⟩
  | 92 => ⟨S_, .f32⟩
  | 93 => ⟨S3x1x1, .f32⟩
  | 94 => ⟨S3x1x1, .f32⟩
  | 95 => ⟨S3x1x1, .f32⟩
  | 96 => ⟨S3x1x1, .f32⟩
  | 97 => ⟨S3x1x1, .f32⟩
  | 98 => ⟨S3x1x1, .f32⟩
  | 99 => ⟨S3x5504x4096, .f32⟩
  | 100 => ⟨S3x5504x4096, .f32⟩
  | 101 => ⟨S3x5504x4096, .f32⟩
  | 102 => ⟨S3x5504x4096, .f32⟩
  | 103 => ⟨S3x5504x4096, .f32⟩
  | 104 => ⟨S_, .f32⟩
  | 105 => ⟨S3x5504x4096, .f32⟩
  | 106 => ⟨S3x5504x4096, .f32⟩
  | 107 => ⟨S3x5504x4096, .f32⟩
  | 108 => ⟨S3x5504x4096, .f32⟩
  | 109 => ⟨S3x1x1, .f32⟩
  | 110 => ⟨S_, .f32⟩
  | 111 => ⟨S3x1x1, .f32⟩
  | 112 => ⟨S3x1x1, .f32⟩
  | 113 => ⟨S3x5504x4096, .f32⟩
  | 114 => ⟨S3x5504x4096, .f32⟩
  | 115 => ⟨S3x5504x4096, .f32⟩
  | 116 => ⟨S3x5504x4096, .f32⟩
  | 117 => ⟨S3x5504x4096, .f32⟩
  | 118 => ⟨S3x5504x4096, .f32⟩
  | 119 => ⟨S3x5504x32x128, .f32⟩
  | 120 => ⟨S_, .f32⟩
  | 121 => ⟨S3x5504x32, .f32⟩
  | 122 => ⟨S_, .f32⟩
  | 123 => ⟨S3x5504x32, .f32⟩
  | 124 => ⟨S3x5504x32, .i1⟩
  | 125 => ⟨S_, .f32⟩
  | 126 => ⟨S_, .f32⟩
  | 127 => ⟨S3x5504x32, .f32⟩
  | _ => ⟨S3x5504x4096, .bf16⟩

abbrev hbmTy0_1 (i : Nat) : BufTy := match i % 128 with
  | 0 => ⟨S3x5504x32, .f32⟩
  | 1 => ⟨S3x5504x32x1, .f32⟩
  | 2 => ⟨S3x5504x32x128, .f32⟩
  | 3 => ⟨S3x5504x4096, .f32⟩
  | 4 => ⟨S3x5504x4096, .f32⟩
  | 5 => ⟨S3x5504x4096, .f32⟩
  | 6 => ⟨S_, .f32⟩
  | 7 => ⟨S3x5504x4096, .f32⟩
  | 8 => ⟨S3x5504x4096, .f32⟩
  | 9 => ⟨S3x5504x4096, .f32⟩
  | 10 => ⟨S3x5504x4096, .f32⟩
  | 11 => ⟨S3x5504x4096, .f32⟩
  | 12 => ⟨S3x5504x4096, .f32⟩
  | 13 => ⟨S_, .i32⟩
  | 14 => ⟨S_, .i32⟩
  | 15 => ⟨S_, .f32⟩
  | 16 => ⟨S3x5504x4096, .f32⟩
  | 17 => ⟨S3x5504x4096, .f32⟩
  | 18 => ⟨S_, .f32⟩
  | 19 => ⟨S3x5504x4096, .f32⟩
  | 20 => ⟨S3x5504x4096, .f32⟩
  | 21 => ⟨S3x5504x4096, .bf16⟩
  | 22 => ⟨S16512x4096, .bf16⟩
  | 23 => ⟨S3x5504x4096, .bf16⟩
  | 24 => ⟨S16512x4096, .bf16⟩
  | 25 => ⟨S3x5504x4096, .i32⟩
  | 26 => ⟨S_, .i32⟩
  | 27 => ⟨S3x5504x4096, .i32⟩
  | 28 => ⟨S3x5504x4096, .i32⟩
  | 29 => ⟨S3x5504x32x2x64, .i32⟩
  | 30 => ⟨S3x5504x32x1x64, .i32⟩
  | 31 => ⟨S3x5504x32x64, .i32⟩
  | 32 => ⟨S3x5504x32x1x64, .i32⟩
  | 33 => ⟨S3x5504x32x64, .i32⟩
  | 34 => ⟨S_, .i32⟩
  | 35 => ⟨S3x5504x32x64, .i32⟩
  | 36 => ⟨S3x5504x32x64, .i32⟩
  | 37 => ⟨S3x5504x32x64, .i32⟩
  | 38 => ⟨S3x5504x32x64, .i8⟩
  | 39 => ⟨S16512x2048, .i8⟩
  | 40 => ⟨S16512x32, .f32⟩
  | _ => ⟨S3x5504x4096, .bf16⟩

abbrev hbmTy (i : Nat) : BufTy := match i / 128 with
  | 0 => hbmTy0_0 i
  | 1 => hbmTy0_1 i
  | _ => ⟨S3x5504x4096, .bf16⟩

abbrev bufTy : (tb : Table) → Fin (tcTables nBuf tb) → BufTy
  | .hbm, ⟨i, _⟩ => hbmTy i
  | _, _ => ⟨S3x5504x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_cst_10 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_call0_v0 : Ref sig .tc := ⟨.hbm, 126, rfl⟩
abbrev main_call0_v1 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_c_24 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_25 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_c_26 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩

abbrev nD : Nat := 1
abbrev τ : Topo := Topo.v7x

variable {F : FTy → Type} [FloatOps F]
-- ==== Proof.UnitLoop.lean ====
/- The inner loop of the main kernel, one trip at a symbolic trip number. -/
module

public import proofs.«01_k».proof.Proof.Gen.Main.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Main.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ### `k0_t1_loop`: the generated invariant (classifier: affine) -/

/-- One trip's resources: what the region reads (arg4, arg5, arg6, arg8, arg20, arg21, arg22, arg23,
   arg24) at its contents, what it writes (arg13, arg14, arg15, arg16, arg17, arg25, arg26) at any. -/
abbrev Trip_k0_t1 (c : Dev nD) (arg4 : Memref sig .tc .vmem S128x4096 .bf16) (arg5 : Memref sig .tc .vmem S128x4096 .bf16) (arg6 : Memref sig .tc .vmem S128x2048 .i8) (arg8 : Memref sig .tc .vmem S128x2048 .i8) (arg20 : Memref sig .tc .vmem S128x128 .f32) (arg21 : Memref sig .tc .vmem S128x128 .f32) (arg22 : Memref sig .tc .vmem S8x4096 .f32) (arg23 : Memref sig .tc .vmem S8x4096 .f32) (arg24 : Memref sig .tc .vmem S128x32 .f32) (arg13 : Memref sig .tc .vmem S128x4096 .bf16) (arg14 : Memref sig .tc .vmem S128x4096 .bf16) (arg15 : Memref sig .tc .vmem S128x2048 .i8) (arg16 : Memref sig .tc .vmem S128x32 .f32) (arg17 : Memref sig .tc .vmem S128x2048 .i8) (arg25 : Memref sig .tc .vmem S128x4096 .f32) (arg26 : Memref sig .tc .vmem S32x8x128 .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg25.view.loc (c : Thread nD τ) ↦[arg25.view.set]{fullShare} f_arg25) ∗ (arg26.view.loc (c : Thread nD τ) ↦[arg26.view.set]{fullShare} f_arg26))

/-- ONE TRIP of `k0_t1_loop` at a symbolic `k`, run by `sl_exec` (its rectangles' offsets closed
   forms of `k`, their geometry linear arithmetic): the pieces it writes into arg13, arg14, arg15,
   arg16, arg17, arg25, arg26 are the run's own finds — the witnesses `sl_close` assigns handing the
   buffers to the continuation, as functions of the contents the trip finds in the memrefs it writes
   (the region loads some of them back). `@[irreducible]`: cited, never unfolded. -/
@[irreducible] def trip_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) :
    Σ' (L_arg13 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x4096 .bf16))) (L_arg14 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x4096 .bf16))) (L_arg15 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x2048 .i8))) (L_arg16 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x32 .f32))) (L_arg17 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x2048 .i8))) (L_arg25 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x4096 .f32))) , { L_arg26 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S32x8x128 .f32)) // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty),
      Trip_k0_t1 (F := F) c arg4 arg5 arg6 arg8 arg20 arg21 arg22 arg23 arg24 arg13 arg14 arg15 arg16 arg17 arg25 arg26 X_arg4 X_arg5 X_arg6 X_arg8 X_arg20 X_arg21 X_arg22 X_arg23 X_arg24 f_arg13 f_arg14 f_arg15 f_arg16 f_arg17 f_arg25 f_arg26
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 k PUnit.unit)
          (fun _ => Trip_k0_t1 (F := F) c arg4 arg5 arg6 arg8 arg20 arg21 arg22 arg23 arg24 arg13 arg14 arg15 arg16 arg17 arg25 arg26 X_arg4 X_arg5 X_arg6 X_arg8 X_arg20 X_arg21 X_arg22 X_arg23 X_arg24 (arg13.view.writes (Elt F) f_arg13 (L_arg13 f_arg13 f_arg14 f_arg15 f_arg16 f_arg17 f_arg25 f_arg26)) (arg14.view.writes (Elt F) f_arg14 (L_arg14 f_arg13 f_arg14 f_arg15 f_arg16 f_arg17 f_arg25 f_arg26)) (arg15.view.writes (Elt F) f_arg15 (L_arg15 f_arg13 f_arg14 f_arg15 f_arg16 f_arg17 f_arg25 f_arg26)) (arg16.view.writes (Elt F) f_arg16 (L_arg16 f_arg13 f_arg14 f_arg15 f_arg16 f_arg17 f_arg25 f_arg26)) (arg17.view.writes (Elt F) f_arg17 (L_arg17 f_arg13 f_arg14 f_arg15 f_arg16 f_arg17 f_arg25 f_arg26)) (arg25.view.writes (Elt F) f_arg25 (L_arg25 f_arg13 f_arg14 f_arg15 f_arg16 f_arg17 f_arg25 f_arg26)) (arg26.view.writes (Elt F) f_arg26 (L_arg26 f_arg13 f_arg14 f_arg15 f_arg16 f_arg17 f_arg25 f_arg26))) } := by
  have hk : k.val < 4 := Nat.lt_of_lt_of_le k.isLt k0_t1_abs.2.1
  refine ⟨?_, ?_, ?_, ?_, ?_, ?_, ?_, fun E f_arg13 f_arg14 f_arg15 f_arg16 f_arg17 f_arg25 f_arg26 => ?run⟩
  case run =>
    unfold k0_t1_body
    iintro ⟨HR_arg4, HR_arg5, HR_arg6, HR_arg8, HR_arg20, HR_arg21, HR_arg22, HR_arg23, HR_arg24, HW_arg13, HW_arg14, HW_arg15, HW_arg16, HW_arg17, HW_arg25, HW_arg26⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) : List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.2.2.1 f_arg13 f_arg14 f_arg15 f_arg16 f_arg17 f_arg25 f_arg26)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (k : ℕ) (prev : List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32)) : List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.1 ++ prev.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.2.1 ++ prev.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.2.2.1 ++ prev.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.2.2.2 ++ prev.2.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) : ℕ → List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32)
  | 0 => ([], [], [], [], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k)

theorem pb_k0_t1_succ (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2) := by
  rw [pb_k0_t1.eq_2]; unfold pb_k0_t1Step; exact dif_pos k.isLt

/-- THE INVARIANT before trip `k`: arg4, arg5, arg6, arg8, arg20, arg21, arg22, arg23, arg24 read at
   `X_·`; arg13, arg14, arg15, arg16, arg17, arg25, arg26 holding the pieces of the trips before `k`
   written over the contents at loop entry `G_·` (stated `∃ f, … ∗ ⌜f = …⌝`, so that a hypothesis of
   any contents matches and the equation is what is proved). -/
abbrev inv_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (k : ℕ) (_u : PUnit) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).1⌝) ∗ (∃ f, (arg14.view.loc (c : Thread nD τ) ↦[arg14.view.set]{fullShare} f) ∗ ⌜f = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.1⌝) ∗ (∃ f, (arg15.view.loc (c : Thread nD τ) ↦[arg15.view.set]{fullShare} f) ∗ ⌜f = arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.1⌝) ∗ (∃ f, (arg16.view.loc (c : Thread nD τ) ↦[arg16.view.set]{fullShare} f) ∗ ⌜f = arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.1⌝) ∗ (∃ f, (arg17.view.loc (c : Thread nD τ) ↦[arg17.view.set]{fullShare} f) ∗ ⌜f = arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.2.1⌝) ∗ (∃ f, (arg25.view.loc (c : Thread nD τ) ↦[arg25.view.set]{fullShare} f) ∗ ⌜f = arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.2.2.1⌝) ∗ (∃ f, (arg26.view.loc (c : Thread nD τ) ↦[arg26.view.set]{fullShare} f) ∗ ⌜f = arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26
  step k acc := by
    iintro ⟨HR_arg4, HR_arg5, HR_arg6, HR_arg8, HR_arg20, HR_arg21, HR_arg22, HR_arg23, HR_arg24, ⟨%f_arg13, HW_arg13, %h_arg13⟩, ⟨%f_arg14, HW_arg14, %h_arg14⟩, ⟨%f_arg15, HW_arg15, %h_arg15⟩, ⟨%f_arg16, HW_arg16, %h_arg16⟩, ⟨%f_arg17, HW_arg17, %h_arg17⟩, ⟨%f_arg25, HW_arg25, %h_arg25⟩, ⟨%f_arg26, HW_arg26, %h_arg26⟩⟩
    iapply (wp_wand_r Idealize.ShloMosaic.frame (wpE (defs₀ (F := F)) 𝒱 (c : Thread nD τ) bd) E)
    isplitl [HR_arg4 HR_arg5 HR_arg6 HR_arg8 HR_arg20 HR_arg21 HR_arg22 HR_arg23 HR_arg24 HW_arg13 HW_arg14 HW_arg15 HW_arg16 HW_arg17 HW_arg25 HW_arg26]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.2.2.2 E f_arg13 f_arg14 f_arg15 f_arg16 f_arg17 f_arg25 f_arg26)
      isplitl [HR_arg4]; · iexact HR_arg4
      isplitl [HR_arg5]; · iexact HR_arg5
      isplitl [HR_arg6]; · iexact HR_arg6
      isplitl [HR_arg8]; · iexact HR_arg8
      isplitl [HR_arg20]; · iexact HR_arg20
      isplitl [HR_arg21]; · iexact HR_arg21
      isplitl [HR_arg22]; · iexact HR_arg22
      isplitl [HR_arg23]; · iexact HR_arg23
      isplitl [HR_arg24]; · iexact HR_arg24
      isplitl [HW_arg13]; · iexact HW_arg13
      isplitl [HW_arg14]; · iexact HW_arg14
      isplitl [HW_arg15]; · iexact HW_arg15
      isplitl [HW_arg16]; · iexact HW_arg16
      isplitl [HW_arg17]; · iexact HW_arg17
      isplitl [HW_arg25]; · iexact HW_arg25
      iexact HW_arg26
    · iintro %_ ⟨HR_arg4, HR_arg5, HR_arg6, HR_arg8, HR_arg20, HR_arg21, HR_arg22, HR_arg23, HR_arg24, HW_arg13, HW_arg14, HW_arg15, HW_arg16, HW_arg17, HW_arg25, HW_arg26⟩
      isplitl [HR_arg4]; · iexact HR_arg4
      isplitl [HR_arg5]; · iexact HR_arg5
      isplitl [HR_arg6]; · iexact HR_arg6
      isplitl [HR_arg8]; · iexact HR_arg8
      isplitl [HR_arg20]; · iexact HR_arg20
      isplitl [HR_arg21]; · iexact HR_arg21
      isplitl [HR_arg22]; · iexact HR_arg22
      isplitl [HR_arg23]; · iexact HR_arg23
      isplitl [HR_arg24]; · iexact HR_arg24
      rw [pb_k0_t1_succ]
      isplitl [HW_arg13]
      · iexists _; isplitl [HW_arg13]; · iexact HW_arg13
        ipureintro; rw [h_arg13, h_arg14, h_arg15, h_arg16, h_arg17, h_arg25, h_arg26, ← View.writes_append]
      isplitl [HW_arg14]
      · iexists _; isplitl [HW_arg14]; · iexact HW_arg14
        ipureintro; rw [h_arg13, h_arg14, h_arg15, h_arg16, h_arg17, h_arg25, h_arg26, ← View.writes_append]
      isplitl [HW_arg15]
      · iexists _; isplitl [HW_arg15]; · iexact HW_arg15
        ipureintro; rw [h_arg13, h_arg14, h_arg15, h_arg16, h_arg17, h_arg25, h_arg26, ← View.writes_append]
      isplitl [HW_arg16]
      · iexists _; isplitl [HW_arg16]; · iexact HW_arg16
        ipureintro; rw [h_arg13, h_arg14, h_arg15, h_arg16, h_arg17, h_arg25, h_arg26, ← View.writes_append]
      isplitl [HW_arg17]
      · iexists _; isplitl [HW_arg17]; · iexact HW_arg17
        ipureintro; rw [h_arg13, h_arg14, h_arg15, h_arg16, h_arg17, h_arg25, h_arg26, ← View.writes_append]
      isplitl [HW_arg25]
      · iexists _; isplitl [HW_arg25]; · iexact HW_arg25
        ipureintro; rw [h_arg13, h_arg14, h_arg15, h_arg16, h_arg17, h_arg25, h_arg26, ← View.writes_append]
      iexists _; isplitl [HW_arg26]; · iexact HW_arg26
      ipureintro; rw [h_arg13, h_arg14, h_arg15, h_arg16, h_arg17, h_arg25, h_arg26, ← View.writes_append]

end Cert.Main.Gen

end
-- ==== Proof.Body.lean ====
/-
  The body of the main kernel at one grid point, run once at symbolic memrefs: every load and store is in range, both
  inner loops return, the twelve inputs keep their contents and every other buffer is handed back at some contents.
-/
module

public import proofs.«01_k».proof.Proof.Gen.Main.Launch
public import proofs.«01_k».proof.Proof.Gen.Main.Points
public import proofs.«01_k».proof.Proof.Gen.Main.Frame
public import proofs.«01_k».proof.Proof.UnitLoop
public import Idealize.ShloMosaic.Lib.Exec
public import Idealize.ShloMosaic.Lib.Tactic
public import Idealize.ShloMosaic.Lib.Pipeline.FrameBody
public import Idealize.ShloMosaic.Lib.Pipeline.DatRel

@[expose] public section

set_option maxRecDepth 16384
set_option maxHeartbeats 4000000

noncomputable section

namespace Cert.Main.Hand

open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- Memref `M`'s buffer on core `c`: its contents type, and it held at `f` over the memref's elements. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem body_run (c : Dev nD) (i : grid0.Coords)
    (arg1 : Memref sig .tc .smem S3 .i32) (harg1 : arg1.IsWhole) (arg2 : Memref sig .tc .smem S3 .f32) (harg2 : arg2.IsWhole)
    (arg3 : Memref sig .tc .smem S3 .f32) (harg3 : arg3.IsWhole) (arg4 : Memref sig .tc .vmem S128x4096 .bf16) (harg4 : arg4.IsWhole)
    (arg5 : Memref sig .tc .vmem S128x4096 .bf16) (harg5 : arg5.IsWhole) (arg6 : Memref sig .tc .vmem S128x2048 .i8) (harg6 : arg6.IsWhole)
    (arg7 : Memref sig .tc .vmem S128x32 .f32) (harg7 : arg7.IsWhole) (arg8 : Memref sig .tc .vmem S128x2048 .i8) (harg8 : arg8.IsWhole)
    (arg9 : Memref sig .tc .vmem S3x5504 .f32) (harg9 : arg9.IsWhole) (arg10 : Memref sig .tc .vmem S3x4096 .f32) (harg10 : arg10.IsWhole)
    (arg11 : Memref sig .tc .vmem S3x5504 .f32) (harg11 : arg11.IsWhole) (arg12 : Memref sig .tc .vmem S3x4096 .f32) (harg12 : arg12.IsWhole)
    (arg13 : Memref sig .tc .vmem S128x4096 .bf16) (harg13 : arg13.IsWhole) (arg14 : Memref sig .tc .vmem S128x4096 .bf16) (harg14 : arg14.IsWhole)
    (arg15 : Memref sig .tc .vmem S128x2048 .i8) (harg15 : arg15.IsWhole) (arg16 : Memref sig .tc .vmem S128x32 .f32) (harg16 : arg16.IsWhole)
    (arg17 : Memref sig .tc .vmem S128x2048 .i8) (harg17 : arg17.IsWhole) (arg18 : Memref sig .tc .vmem S128x4096 .fp8e4m3) (harg18 : arg18.IsWhole)
    (arg19 : Memref sig .tc .vmem S3x43x32 .f32) (harg19 : arg19.IsWhole) (arg20 : Memref sig .tc .vmem S128x128 .f32) (harg20 : arg20.IsWhole)
    (arg21 : Memref sig .tc .vmem S128x128 .f32) (harg21 : arg21.IsWhole) (arg22 : Memref sig .tc .vmem S8x4096 .f32) (harg22 : arg22.IsWhole)
    (arg23 : Memref sig .tc .vmem S8x4096 .f32) (harg23 : arg23.IsWhole) (arg24 : Memref sig .tc .vmem S128x32 .f32) (harg24 : arg24.IsWhole)
    (arg25 : Memref sig .tc .vmem S128x4096 .f32) (harg25 : arg25.IsWhole) (arg26 : Memref sig .tc .vmem S32x8x128 .f32) (harg26 : arg26.IsWhole)
    (arg27 : Memref sig .tc .vmem S32x128 .f32) (harg27 : arg27.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f14 : Bf (F := F) c arg14) (f15 : Bf (F := F) c arg15)
    (f16 : Bf (F := F) c arg16) (f17 : Bf (F := F) c arg17) (f18 : Bf (F := F) c arg18) (f19 : Bf (F := F) c arg19) (f20 : Bf (F := F) c arg20)
    (f21 : Bf (F := F) c arg21) (f22 : Bf (F := F) c arg22) (f23 : Bf (F := F) c arg23) (f24 : Bf (F := F) c arg24) (f25 : Bf (F := F) c arg25)
    (f26 : Bf (F := F) c arg26) (f27 : Bf (F := F) c arg27) :
    iprop(pt c arg1 f1 ∗ pt c arg2 f2 ∗ pt c arg3 f3 ∗ pt c arg4 f4 ∗ pt c arg5 f5 ∗ pt c arg6 f6 ∗ pt c arg7 f7
       ∗ pt c arg8 f8 ∗ pt c arg9 f9 ∗ pt c arg10 f10 ∗ pt c arg11 f11 ∗ pt c arg12 f12 ∗ pt c arg13 f13
       ∗ pt c arg14 f14 ∗ pt c arg15 f15 ∗ pt c arg16 f16 ∗ pt c arg17 f17 ∗ pt c arg18 f18 ∗ pt c arg19 f19
       ∗ pt c arg20 f20 ∗ pt c arg21 f21 ∗ pt c arg22 f22 ∗ pt c arg23 f23 ∗ pt c arg24 f24 ∗ pt c arg25 f25
       ∗ pt c arg26 f26 ∗ pt c arg27 f27)
    ⊢ wp frame (wpE (defs₀ (F := F)) Variants.none (c : Thread nD τ) none) Set.univ
        (cc0_adamw i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18
        arg19 harg19 arg20 harg20 arg21 harg21 arg22 harg22 arg23 harg23 arg24 harg24 arg25 harg25 arg26 harg26 arg27 harg27)
        (fun _ => iprop(pt c arg1 f1 ∗ pt c arg2 f2 ∗ pt c arg3 f3 ∗ pt c arg4 f4 ∗ pt c arg5 f5 ∗ pt c arg6 f6 ∗ pt c arg7 f7
       ∗ pt c arg8 f8 ∗ pt c arg9 f9 ∗ pt c arg10 f10 ∗ pt c arg11 f11 ∗ pt c arg12 f12 ∗ (∃ f, pt c arg13 f)
       ∗ (∃ f, pt c arg14 f) ∗ (∃ f, pt c arg15 f) ∗ (∃ f, pt c arg16 f) ∗ (∃ f, pt c arg17 f) ∗ (∃ f, pt c arg18 f)
       ∗ (∃ f, pt c arg19 f) ∗ (∃ f, pt c arg20 f) ∗ (∃ f, pt c arg21 f) ∗ (∃ f, pt c arg22 f) ∗ (∃ f, pt c arg23 f)
       ∗ (∃ f, pt c arg24 f) ∗ (∃ f, pt c arg25 f) ∗ (∃ f, pt c arg26 f) ∗ (∃ f, pt c arg27 f))) := by
  by_cases hc : k0_cond1 i = 1#1
  · iintro ⟨H1, H2, H3, H4, H5, H6, H7, H8, H9, H10, H11, H12, H13, H14, H15, H16, H17, H18, H19, H20, H21, H22, H23, H24, H25, H26, H27⟩
    rw [cc0_adamw_eq_skeleton]; unfold cc0_adamw_skel
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27
  · iintro ⟨H1, H2, H3, H4, H5, H6, H7, H8, H9, H10, H11, H12, H13, H14, H15, H16, H17, H18, H19, H20, H21, H22, H23, H24, H25, H26, H27⟩
    rw [cc0_adamw_eq_skeleton]; unfold cc0_adamw_skel
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

/-- The same over `owns`: the inputs come back as they were, everything else at some contents. -/
theorem body_own (c : Dev nD) (i : grid0.Coords)
    (arg1 : Memref sig .tc .smem S3 .i32) (harg1 : arg1.IsWhole) (arg2 : Memref sig .tc .smem S3 .f32) (harg2 : arg2.IsWhole)
    (arg3 : Memref sig .tc .smem S3 .f32) (harg3 : arg3.IsWhole) (arg4 : Memref sig .tc .vmem S128x4096 .bf16) (harg4 : arg4.IsWhole)
    (arg5 : Memref sig .tc .vmem S128x4096 .bf16) (harg5 : arg5.IsWhole) (arg6 : Memref sig .tc .vmem S128x2048 .i8) (harg6 : arg6.IsWhole)
    (arg7 : Memref sig .tc .vmem S128x32 .f32) (harg7 : arg7.IsWhole) (arg8 : Memref sig .tc .vmem S128x2048 .i8) (harg8 : arg8.IsWhole)
    (arg9 : Memref sig .tc .vmem S3x5504 .f32) (harg9 : arg9.IsWhole) (arg10 : Memref sig .tc .vmem S3x4096 .f32) (harg10 : arg10.IsWhole)
    (arg11 : Memref sig .tc .vmem S3x5504 .f32) (harg11 : arg11.IsWhole) (arg12 : Memref sig .tc .vmem S3x4096 .f32) (harg12 : arg12.IsWhole)
    (arg13 : Memref sig .tc .vmem S128x4096 .bf16) (harg13 : arg13.IsWhole) (arg14 : Memref sig .tc .vmem S128x4096 .bf16) (harg14 : arg14.IsWhole)
    (arg15 : Memref sig .tc .vmem S128x2048 .i8) (harg15 : arg15.IsWhole) (arg16 : Memref sig .tc .vmem S128x32 .f32) (harg16 : arg16.IsWhole)
    (arg17 : Memref sig .tc .vmem S128x2048 .i8) (harg17 : arg17.IsWhole) (arg18 : Memref sig .tc .vmem S128x4096 .fp8e4m3) (harg18 : arg18.IsWhole)
    (arg19 : Memref sig .tc .vmem S3x43x32 .f32) (harg19 : arg19.IsWhole) (arg20 : Memref sig .tc .vmem S128x128 .f32) (harg20 : arg20.IsWhole)
    (arg21 : Memref sig .tc .vmem S128x128 .f32) (harg21 : arg21.IsWhole) (arg22 : Memref sig .tc .vmem S8x4096 .f32) (harg22 : arg22.IsWhole)
    (arg23 : Memref sig .tc .vmem S8x4096 .f32) (harg23 : arg23.IsWhole) (arg24 : Memref sig .tc .vmem S128x32 .f32) (harg24 : arg24.IsWhole)
    (arg25 : Memref sig .tc .vmem S128x4096 .f32) (harg25 : arg25.IsWhole) (arg26 : Memref sig .tc .vmem S32x8x128 .f32) (harg26 : arg26.IsWhole)
    (arg27 : Memref sig .tc .vmem S32x128 .f32) (harg27 : arg27.IsWhole)
    (X1 : S3.Idx → Elt F .i32)
    (X2 : S3.Idx → Elt F .f32)
    (X3 : S3.Idx → Elt F .f32)
    (X4 : S128x4096.Idx → Elt F .bf16)
    (X5 : S128x4096.Idx → Elt F .bf16)
    (X6 : S128x2048.Idx → Elt F .i8)
    (X7 : S128x32.Idx → Elt F .f32)
    (X8 : S128x2048.Idx → Elt F .i8)
    (X9 : S3x5504.Idx → Elt F .f32)
    (X10 : S3x4096.Idx → Elt F .f32)
    (X11 : S3x5504.Idx → Elt F .f32)
    (X12 : S3x4096.Idx → Elt F .f32)
    (X13 : S128x4096.Idx → Elt F .bf16)
    (X14 : S128x4096.Idx → Elt F .bf16)
    (X15 : S128x2048.Idx → Elt F .i8)
    (X16 : S128x32.Idx → Elt F .f32)
    (X17 : S128x2048.Idx → Elt F .i8)
    (X18 : S128x4096.Idx → Elt F .fp8e4m3)
    (X19 : S3x43x32.Idx → Elt F .f32)
    (X20 : S128x128.Idx → Elt F .f32)
    (X21 : S128x128.Idx → Elt F .f32)
    (X22 : S8x4096.Idx → Elt F .f32)
    (X23 : S8x4096.Idx → Elt F .f32)
    (X24 : S128x32.Idx → Elt F .f32)
    (X25 : S128x4096.Idx → Elt F .f32)
    (X26 : S32x8x128.Idx → Elt F .f32)
    (X27 : S32x128.Idx → Elt F .f32) :
    (iprop(owns (c : Thread nD τ) arg1 fullShare X1 ∗ owns (c : Thread nD τ) arg2 fullShare X2
       ∗ owns (c : Thread nD τ) arg3 fullShare X3 ∗ owns (c : Thread nD τ) arg4 fullShare X4
       ∗ owns (c : Thread nD τ) arg5 fullShare X5 ∗ owns (c : Thread nD τ) arg6 fullShare X6
       ∗ owns (c : Thread nD τ) arg7 fullShare X7 ∗ owns (c : Thread nD τ) arg8 fullShare X8
       ∗ owns (c : Thread nD τ) arg9 fullShare X9 ∗ owns (c : Thread nD τ) arg10 fullShare X10
       ∗ owns (c : Thread nD τ) arg11 fullShare X11 ∗ owns (c : Thread nD τ) arg12 fullShare X12
       ∗ owns (c : Thread nD τ) arg13 fullShare X13 ∗ owns (c : Thread nD τ) arg14 fullShare X14
       ∗ owns (c : Thread nD τ) arg15 fullShare X15 ∗ owns (c : Thread nD τ) arg16 fullShare X16
       ∗ owns (c : Thread nD τ) arg17 fullShare X17 ∗ owns (c : Thread nD τ) arg18 fullShare X18
       ∗ owns (c : Thread nD τ) arg19 fullShare X19 ∗ owns (c : Thread nD τ) arg20 fullShare X20
       ∗ owns (c : Thread nD τ) arg21 fullShare X21 ∗ owns (c : Thread nD τ) arg22 fullShare X22
       ∗ owns (c : Thread nD τ) arg23 fullShare X23 ∗ owns (c : Thread nD τ) arg24 fullShare X24
       ∗ owns (c : Thread nD τ) arg25 fullShare X25 ∗ owns (c : Thread nD τ) arg26 fullShare X26
       ∗ owns (c : Thread nD τ) arg27 fullShare X27) : sProp 𝕄)
    ⊢ wp frame (wpE (defs₀ (F := F)) Variants.none (c : Thread nD τ) none) Set.univ
        (cc0_adamw i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18
        arg19 harg19 arg20 harg20 arg21 harg21 arg22 harg22 arg23 harg23 arg24 harg24 arg25 harg25 arg26 harg26 arg27 harg27)
        (fun _ => iprop(owns (c : Thread nD τ) arg1 fullShare X1 ∗ owns (c : Thread nD τ) arg2 fullShare X2
       ∗ owns (c : Thread nD τ) arg3 fullShare X3 ∗ owns (c : Thread nD τ) arg4 fullShare X4
       ∗ owns (c : Thread nD τ) arg5 fullShare X5 ∗ owns (c : Thread nD τ) arg6 fullShare X6
       ∗ owns (c : Thread nD τ) arg7 fullShare X7 ∗ owns (c : Thread nD τ) arg8 fullShare X8
       ∗ owns (c : Thread nD τ) arg9 fullShare X9 ∗ owns (c : Thread nD τ) arg10 fullShare X10
       ∗ owns (c : Thread nD τ) arg11 fullShare X11 ∗ owns (c : Thread nD τ) arg12 fullShare X12
       ∗ (∃ Y, owns (c : Thread nD τ) arg13 fullShare Y) ∗ (∃ Y, owns (c : Thread nD τ) arg14 fullShare Y)
       ∗ (∃ Y, owns (c : Thread nD τ) arg15 fullShare Y) ∗ (∃ Y, owns (c : Thread nD τ) arg16 fullShare Y)
       ∗ (∃ Y, owns (c : Thread nD τ) arg17 fullShare Y) ∗ (∃ Y, owns (c : Thread nD τ) arg18 fullShare Y)
       ∗ (∃ Y, owns (c : Thread nD τ) arg19 fullShare Y) ∗ (∃ Y, owns (c : Thread nD τ) arg20 fullShare Y)
       ∗ (∃ Y, owns (c : Thread nD τ) arg21 fullShare Y) ∗ (∃ Y, owns (c : Thread nD τ) arg22 fullShare Y)
       ∗ (∃ Y, owns (c : Thread nD τ) arg23 fullShare Y) ∗ (∃ Y, owns (c : Thread nD τ) arg24 fullShare Y)
       ∗ (∃ Y, owns (c : Thread nD τ) arg25 fullShare Y) ∗ (∃ Y, owns (c : Thread nD τ) arg26 fullShare Y)
       ∗ (∃ Y, owns (c : Thread nD τ) arg27 fullShare Y))) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩⟩
  iapply (wp_wand_r Idealize.ShloMosaic.frame (wpE (defs₀ (F := F)) Variants.none (c : Thread nD τ) none) Set.univ)
  isplitl [H1 H2 H3 H4 H5 H6 H7 H8 H9 H10 H11 H12 H13 H14 H15 H16 H17 H18 H19 H20 H21 H22 H23 H24 H25 H26 H27]
  · iapply (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro %_ ⟨H1, H2, H3, H4, H5, H6, H7, H8, H9, H10, H11, H12, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩, ⟨%g26, H26⟩, ⟨%g27, H27⟩⟩
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists _, g13; isplitr; · ipureintro; rfl
    iexact H13
  isplitl [H14]
  · iexists _, g14; isplitr; · ipureintro; rfl
    iexact H14
  isplitl [H15]
  · iexists _, g15; isplitr; · ipureintro; rfl
    iexact H15
  isplitl [H16]
  · iexists _, g16; isplitr; · ipureintro; rfl
    iexact H16
  isplitl [H17]
  · iexists _, g17; isplitr; · ipureintro; rfl
    iexact H17
  isplitl [H18]
  · iexists _, g18; isplitr; · ipureintro; rfl
    iexact H18
  isplitl [H19]
  · iexists _, g19; isplitr; · ipureintro; rfl
    iexact H19
  isplitl [H20]
  · iexists _, g20; isplitr; · ipureintro; rfl
    iexact H20
  isplitl [H21]
  · iexists _, g21; isplitr; · ipureintro; rfl
    iexact H21
  isplitl [H22]
  · iexists _, g22; isplitr; · ipureintro; rfl
    iexact H22
  isplitl [H23]
  · iexists _, g23; isplitr; · ipureintro; rfl
    iexact H23
  isplitl [H24]
  · iexists _, g24; isplitr; · ipureintro; rfl
    iexact H24
  isplitl [H25]
  · iexists _, g25; isplitr; · ipureintro; rfl
    iexact H25
  isplitl [H26]
  · iexists _, g26; isplitr; · ipureintro; rfl
    iexact H26
  iexists _, g27; isplitr; · ipureintro; rfl
  iexact H27

end Cert.Main.Hand

end
-- ==== Proof.Region.lean ====
/-
  The frame of the main kernel: the launch runs the pipeline over the 129 grid points, the twelve inputs end as they
  began, nothing is said of what the kernel leaves in its results, and every semaphore counter ends at zero.
-/
module

public import proofs.«01_k».proof.Proof.Body
public import Idealize.ShloMosaic.Lib.Pipeline.Kit

@[expose] public section

set_option maxRecDepth 16384
set_option maxHeartbeats 4000000

noncomputable section

namespace Cert.Main.Hand

open Cert.Main Cert.Main.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the results: nothing here says what the kernel leaves in them. -/
def fgt : Fin 19 → Bool := fun w => decide (12 ≤ w.val)

/-- The proof data on core `c`: each array as the region finds it, each input's block left as found, the results' unnamed, the scratch
    at some contents between the points. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => Pipeline.Dat.unnamed (cfg := cfg0) 12 t
    | 13 => Pipeline.Dat.unnamed (cfg := cfg0) 13 t
    | 14 => Pipeline.Dat.unnamed (cfg := cfg0) 14 t
    | 15 => Pipeline.Dat.unnamed (cfg := cfg0) 15 t
    | 16 => Pipeline.Dat.unnamed (cfg := cfg0) 16 t
    | 17 => Pipeline.Dat.unnamed (cfg := cfg0) 17 t
    | 18 => Pipeline.Dat.unnamed (cfg := cfg0) 18 t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = iblk m c 11 t := rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ (∃ X, owns (c : Thread nD τ) (win0_12.stage (cfg0.slots t 12)) fullShare X)
    ∗ (∃ X, owns (c : Thread nD τ) (win0_13.stage (cfg0.slots t 13)) fullShare X)
    ∗ (∃ X, owns (c : Thread nD τ) (win0_14.stage (cfg0.slots t 14)) fullShare X)
    ∗ (∃ X, owns (c : Thread nD τ) (win0_15.stage (cfg0.slots t 15)) fullShare X)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d))
          ∗ ∃ r, prngReg c r) := by
  unfold Pipeline.ΦA
  rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  rw [after_0, after_1, after_2, after_3, after_4, after_5, after_6, after_7, after_8, after_9, after_10, after_11]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [show (dats m 0 c).before 0 t d0 = iblk m c 0 t from before0_0_of m (dats m 0 c) (A_eq m c 0) (after_0 m c) t d0]
  rw [show (dats m 0 c).before 1 t d1 = iblk m c 1 t from before0_1_of m (dats m 0 c) (A_eq m c 1) (after_1 m c) t d1]
  rw [show (dats m 0 c).before 2 t d2 = iblk m c 2 t from before0_2_of m (dats m 0 c) (A_eq m c 2) (after_2 m c) t d2]
  rw [show (dats m 0 c).before 3 t d3 = iblk m c 3 t from before0_3_of m (dats m 0 c) (A_eq m c 3) (after_3 m c) t d3]
  rw [show (dats m 0 c).before 4 t d4 = iblk m c 4 t from before0_4_of m (dats m 0 c) (A_eq m c 4) (after_4 m c) t d4]
  rw [show (dats m 0 c).before 5 t d5 = iblk m c 5 t from before0_5_of m (dats m 0 c) (A_eq m c 5) (after_5 m c) t d5]
  rw [show (dats m 0 c).before 6 t d6 = iblk m c 6 t from before0_6_of m (dats m 0 c) (A_eq m c 6) (after_6 m c) t d6]
  rw [show (dats m 0 c).before 7 t d7 = iblk m c 7 t from before0_7_of m (dats m 0 c) (A_eq m c 7) (after_7 m c) t d7]
  rw [show (dats m 0 c).before 8 t d8 = iblk m c 8 t from before0_8_of m (dats m 0 c) (A_eq m c 8) (after_8 m c) t d8]
  rw [show (dats m 0 c).before 9 t d9 = iblk m c 9 t from before0_9_of m (dats m 0 c) (A_eq m c 9) (after_9 m c) t d9]
  rw [show (dats m 0 c).before 10 t d10 = iblk m c 10 t from before0_10_of m (dats m 0 c) (A_eq m c 10) (after_10 m c) t d10]
  rw [show (dats m 0 c).before 11 t d11 = iblk m c 11 t from before0_11_of m (dats m 0 c) (A_eq m c 11) (after_11 m c) t d11]
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 S0 S1 S2 S3 S4 S5 S6 S7]
  · iapply (body_own c (grid0.coords t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %_ ⟨H0, H1, H2, H3, H4, H5, H6, H7, H8, H9, H10, H11, ⟨%g12, H12⟩, ⟨%g13, H13⟩, ⟨%g14, H14⟩, ⟨%g15, H15⟩, ⟨%g16, H16⟩, ⟨%g17, H17⟩, ⟨%g18, H18⟩, ⟨%s0, S0⟩, ⟨%s1, S1⟩, ⟨%s2, S2⟩, ⟨%s3, S3⟩, ⟨%s4, S4⟩, ⟨%s5, S5⟩, ⟨%s6, S6⟩, ⟨%s7, S7⟩⟩
  isplitl [S0 S1 S2 S3 S4 S5 S6 S7 Hg]
  · isplitl [S0 S1 S2 S3 S4 S5 S6 S7]
    · skip
      isplitl [S0]; · iexists s0; iexact S0
      isplitl [S1]; · iexists s1; iexact S1
      isplitl [S2]; · iexists s2; iexact S2
      isplitl [S3]; · iexists s3; iexact S3
      isplitl [S4]; · iexists s4; iexact S4
      isplitl [S5]; · iexists s5; iexact S5
      isplitl [S6]; · iexists s6; iexact S6
      iexists s7; iexact S7
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists g12; iexact H12
  isplitl [H13]; · iexists g13; iexact H13
  isplitl [H14]; · iexists g14; iexact H14
  isplitl [H15]; · iexists g15; iexact H15
  isplitl [H16]; · iexists g16; iexact H16
  isplitl [H17]; · iexists g17; iexact H17
  iexists g18; iexact H18

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget fgt) (V m) r ∧ r.2.sem = fun _ => 0) :=
  Pipeline.θ_run_frame_track_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl) (Q' := _) (hQ' := fun _ h => h)

variable {m ρ}

/-- After the run every argument holds what it held at launch. -/
theorem args_kept {r : PUnit × MemSt nD τ sig (Elt F)}
    (h : Pipeline.RDat.FramePost (cfgs 0) (fun c => (dats (F := F) m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (h.arr_in c 8 rfl).trans ((A_eq m c 8).trans (V_main_arg5 m c)),
    (h.arr_in c 9 rfl).trans ((A_eq m c 9).trans (V_main_arg6 m c)),
    (h.arr_in c 10 rfl).trans ((A_eq m c 10).trans (V_main_arg7 m c)),
    (h.arr_in c 11 rfl).trans ((A_eq m c 11).trans (V_main_arg8 m c)),
    (h.arr_in c 0 rfl).trans ((A_eq m c 0).trans (V_main_arg9 m c)),
    (h.arr_in c 1 rfl).trans ((A_eq m c 1).trans (V_main_arg10 m c)),
    (h.arr_in c 2 rfl).trans ((A_eq m c 2).trans (V_main_arg11 m c))⟩

end Cert.Main.Hand

end
-- ==== Proof.UnitLoopIdeal.lean ====
/- The inner loop of the main kernel, one trip at a symbolic trip number. -/
module

public import proofs.«01_k».proof.Proof.Gen.MainIdeal.Loops
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.MainIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ
/-! ### `k0_t1_loop`: the generated invariant (classifier: affine) -/

/-- One trip's resources: what the region reads (arg4, arg5, arg6, arg8, arg20, arg21, arg22, arg23,
   arg24) at its contents, what it writes (arg13, arg14, arg15, arg16, arg17, arg25, arg26) at any. -/
abbrev Trip_k0_t1 (c : Dev nD) (arg4 : Memref sig .tc .vmem S128x4096 .bf16) (arg5 : Memref sig .tc .vmem S128x4096 .bf16) (arg6 : Memref sig .tc .vmem S128x2048 .i8) (arg8 : Memref sig .tc .vmem S128x2048 .i8) (arg20 : Memref sig .tc .vmem S128x128 .f32) (arg21 : Memref sig .tc .vmem S128x128 .f32) (arg22 : Memref sig .tc .vmem S8x4096 .f32) (arg23 : Memref sig .tc .vmem S8x4096 .f32) (arg24 : Memref sig .tc .vmem S128x32 .f32) (arg13 : Memref sig .tc .vmem S128x4096 .bf16) (arg14 : Memref sig .tc .vmem S128x4096 .bf16) (arg15 : Memref sig .tc .vmem S128x2048 .i8) (arg16 : Memref sig .tc .vmem S128x32 .f32) (arg17 : Memref sig .tc .vmem S128x2048 .i8) (arg25 : Memref sig .tc .vmem S128x4096 .f32) (arg26 : Memref sig .tc .vmem S32x8x128 .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg25.view.loc (c : Thread nD τ) ↦[arg25.view.set]{fullShare} f_arg25) ∗ (arg26.view.loc (c : Thread nD τ) ↦[arg26.view.set]{fullShare} f_arg26))

/-- ONE TRIP of `k0_t1_loop` at a symbolic `k`, run by `sl_exec` (its rectangles' offsets closed
   forms of `k`, their geometry linear arithmetic): the pieces it writes into arg13, arg14, arg15,
   arg16, arg17, arg25, arg26 are the run's own finds — the witnesses `sl_close` assigns handing the
   buffers to the continuation, as functions of the contents the trip finds in the memrefs it writes
   (the region loads some of them back). `@[irreducible]`: cited, never unfolded. -/
@[irreducible] def trip_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) :
    Σ' (L_arg13 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x4096 .bf16))) (L_arg14 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x4096 .bf16))) (L_arg15 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x2048 .i8))) (L_arg16 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x32 .f32))) (L_arg17 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x2048 .i8))) (L_arg25 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S128x4096 .f32))) , { L_arg26 : (BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg25.view.ty → BufTy.Contents (Elt F) arg26.view.ty → List (View.Piece (Elt F) S32x8x128 .f32)) // ∀ (E : Set ℕ) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty),
      Trip_k0_t1 (F := F) c arg4 arg5 arg6 arg8 arg20 arg21 arg22 arg23 arg24 arg13 arg14 arg15 arg16 arg17 arg25 arg26 X_arg4 X_arg5 X_arg6 X_arg8 X_arg20 X_arg21 X_arg22 X_arg23 X_arg24 f_arg13 f_arg14 f_arg15 f_arg16 f_arg17 f_arg25 f_arg26
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 k PUnit.unit)
          (fun _ => Trip_k0_t1 (F := F) c arg4 arg5 arg6 arg8 arg20 arg21 arg22 arg23 arg24 arg13 arg14 arg15 arg16 arg17 arg25 arg26 X_arg4 X_arg5 X_arg6 X_arg8 X_arg20 X_arg21 X_arg22 X_arg23 X_arg24 (arg13.view.writes (Elt F) f_arg13 (L_arg13 f_arg13 f_arg14 f_arg15 f_arg16 f_arg17 f_arg25 f_arg26)) (arg14.view.writes (Elt F) f_arg14 (L_arg14 f_arg13 f_arg14 f_arg15 f_arg16 f_arg17 f_arg25 f_arg26)) (arg15.view.writes (Elt F) f_arg15 (L_arg15 f_arg13 f_arg14 f_arg15 f_arg16 f_arg17 f_arg25 f_arg26)) (arg16.view.writes (Elt F) f_arg16 (L_arg16 f_arg13 f_arg14 f_arg15 f_arg16 f_arg17 f_arg25 f_arg26)) (arg17.view.writes (Elt F) f_arg17 (L_arg17 f_arg13 f_arg14 f_arg15 f_arg16 f_arg17 f_arg25 f_arg26)) (arg25.view.writes (Elt F) f_arg25 (L_arg25 f_arg13 f_arg14 f_arg15 f_arg16 f_arg17 f_arg25 f_arg26)) (arg26.view.writes (Elt F) f_arg26 (L_arg26 f_arg13 f_arg14 f_arg15 f_arg16 f_arg17 f_arg25 f_arg26))) } := by
  have hk : k.val < 4 := Nat.lt_of_lt_of_le k.isLt k0_t1_abs.2.1
  refine ⟨?_, ?_, ?_, ?_, ?_, ?_, ?_, fun E f_arg13 f_arg14 f_arg15 f_arg16 f_arg17 f_arg25 f_arg26 => ?run⟩
  case run =>
    unfold k0_t1_body
    iintro ⟨HR_arg4, HR_arg5, HR_arg6, HR_arg8, HR_arg20, HR_arg21, HR_arg22, HR_arg23, HR_arg24, HW_arg13, HW_arg14, HW_arg15, HW_arg16, HW_arg17, HW_arg25, HW_arg26⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) : List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.2.1 f_arg13 f_arg14 f_arg15 f_arg16 f_arg17 f_arg25 f_arg26, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.2.2.1 f_arg13 f_arg14 f_arg15 f_arg16 f_arg17 f_arg25 f_arg26)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (k : ℕ) (prev : List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32)) : List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.1 ++ prev.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.2.1 ++ prev.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.2.2.1 ++ prev.2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 ⟨k, h⟩ (arg13.view.writes (Elt F) G_arg13 prev.1) (arg14.view.writes (Elt F) G_arg14 prev.2.1) (arg15.view.writes (Elt F) G_arg15 prev.2.2.1) (arg16.view.writes (Elt F) G_arg16 prev.2.2.2.1) (arg17.view.writes (Elt F) G_arg17 prev.2.2.2.2.1) (arg25.view.writes (Elt F) G_arg25 prev.2.2.2.2.2.1) (arg26.view.writes (Elt F) G_arg26 prev.2.2.2.2.2.2)).2.2.2.2.2.2 ++ prev.2.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) : ℕ → List (View.Piece (Elt F) S128x4096 .bf16) × List (View.Piece (Elt F) S128x4096 .bf16) × List (View.Piece (Elt F) S128x2048 .i8) × List (View.Piece (Elt F) S128x32 .f32) × List (View.Piece (Elt F) S128x2048 .i8) × List (View.Piece (Elt F) S128x4096 .f32) × List (View.Piece (Elt F) S32x8x128 .f32)
  | 0 => ([], [], [], [], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k)

theorem pb_k0_t1_succ (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).1) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.1) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.1) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.1) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.1) (arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.1) (arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2)).2.2.2.2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k.val).2.2.2.2.2.2) := by
  rw [pb_k0_t1.eq_2]; unfold pb_k0_t1Step; exact dif_pos k.isLt

/-- THE INVARIANT before trip `k`: arg4, arg5, arg6, arg8, arg20, arg21, arg22, arg23, arg24 read at
   `X_·`; arg13, arg14, arg15, arg16, arg17, arg25, arg26 holding the pieces of the trips before `k`
   written over the contents at loop entry `G_·` (stated `∃ f, … ∗ ⌜f = …⌝`, so that a hypothesis of
   any contents matches and the equation is what is proved). -/
abbrev inv_k0_t1 (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (k : ℕ) (_u : PUnit) : sProp 𝕄G :=
  iprop((arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} X_arg8) ∗ (arg20.view.loc (c : Thread nD τ) ↦[arg20.view.set]{fullShare} X_arg20) ∗ (arg21.view.loc (c : Thread nD τ) ↦[arg21.view.set]{fullShare} X_arg21) ∗ (arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).1⌝) ∗ (∃ f, (arg14.view.loc (c : Thread nD τ) ↦[arg14.view.set]{fullShare} f) ∗ ⌜f = arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.1⌝) ∗ (∃ f, (arg15.view.loc (c : Thread nD τ) ↦[arg15.view.set]{fullShare} f) ∗ ⌜f = arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.1⌝) ∗ (∃ f, (arg16.view.loc (c : Thread nD τ) ↦[arg16.view.set]{fullShare} f) ∗ ⌜f = arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.1⌝) ∗ (∃ f, (arg17.view.loc (c : Thread nD τ) ↦[arg17.view.set]{fullShare} f) ∗ ⌜f = arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.2.1⌝) ∗ (∃ f, (arg25.view.loc (c : Thread nD τ) ↦[arg25.view.set]{fullShare} f) ∗ ⌜f = arg25.view.writes (Elt F) G_arg25 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.2.2.1⌝) ∗ (∃ f, (arg26.view.loc (c : Thread nD τ) ↦[arg26.view.set]{fullShare} f) ∗ ⌜f = arg26.view.writes (Elt F) G_arg26 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k).2.2.2.2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26
  step k acc := by
    iintro ⟨HR_arg4, HR_arg5, HR_arg6, HR_arg8, HR_arg20, HR_arg21, HR_arg22, HR_arg23, HR_arg24, ⟨%f_arg13, HW_arg13, %h_arg13⟩, ⟨%f_arg14, HW_arg14, %h_arg14⟩, ⟨%f_arg15, HW_arg15, %h_arg15⟩, ⟨%f_arg16, HW_arg16, %h_arg16⟩, ⟨%f_arg17, HW_arg17, %h_arg17⟩, ⟨%f_arg25, HW_arg25, %h_arg25⟩, ⟨%f_arg26, HW_arg26, %h_arg26⟩⟩
    iapply (wp_wand_r Idealize.ShloMosaic.frame (wpE (defs₀ (F := F)) 𝒱 (c : Thread nD τ) bd) E)
    isplitl [HR_arg4 HR_arg5 HR_arg6 HR_arg8 HR_arg20 HR_arg21 HR_arg22 HR_arg23 HR_arg24 HW_arg13 HW_arg14 HW_arg15 HW_arg16 HW_arg17 HW_arg25 HW_arg26]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.2.2.2.2 E f_arg13 f_arg14 f_arg15 f_arg16 f_arg17 f_arg25 f_arg26)
      isplitl [HR_arg4]; · iexact HR_arg4
      isplitl [HR_arg5]; · iexact HR_arg5
      isplitl [HR_arg6]; · iexact HR_arg6
      isplitl [HR_arg8]; · iexact HR_arg8
      isplitl [HR_arg20]; · iexact HR_arg20
      isplitl [HR_arg21]; · iexact HR_arg21
      isplitl [HR_arg22]; · iexact HR_arg22
      isplitl [HR_arg23]; · iexact HR_arg23
      isplitl [HR_arg24]; · iexact HR_arg24
      isplitl [HW_arg13]; · iexact HW_arg13
      isplitl [HW_arg14]; · iexact HW_arg14
      isplitl [HW_arg15]; · iexact HW_arg15
      isplitl [HW_arg16]; · iexact HW_arg16
      isplitl [HW_arg17]; · iexact HW_arg17
      isplitl [HW_arg25]; · iexact HW_arg25
      iexact HW_arg26
    · iintro %_ ⟨HR_arg4, HR_arg5, HR_arg6, HR_arg8, HR_arg20, HR_arg21, HR_arg22, HR_arg23, HR_arg24, HW_arg13, HW_arg14, HW_arg15, HW_arg16, HW_arg17, HW_arg25, HW_arg26⟩
      isplitl [HR_arg4]; · iexact HR_arg4
      isplitl [HR_arg5]; · iexact HR_arg5
      isplitl [HR_arg6]; · iexact HR_arg6
      isplitl [HR_arg8]; · iexact HR_arg8
      isplitl [HR_arg20]; · iexact HR_arg20
      isplitl [HR_arg21]; · iexact HR_arg21
      isplitl [HR_arg22]; · iexact HR_arg22
      isplitl [HR_arg23]; · iexact HR_arg23
      isplitl [HR_arg24]; · iexact HR_arg24
      rw [pb_k0_t1_succ]
      isplitl [HW_arg13]
      · iexists _; isplitl [HW_arg13]; · iexact HW_arg13
        ipureintro; rw [h_arg13, h_arg14, h_arg15, h_arg16, h_arg17, h_arg25, h_arg26, ← View.writes_append]
      isplitl [HW_arg14]
      · iexists _; isplitl [HW_arg14]; · iexact HW_arg14
        ipureintro; rw [h_arg13, h_arg14, h_arg15, h_arg16, h_arg17, h_arg25, h_arg26, ← View.writes_append]
      isplitl [HW_arg15]
      · iexists _; isplitl [HW_arg15]; · iexact HW_arg15
        ipureintro; rw [h_arg13, h_arg14, h_arg15, h_arg16, h_arg17, h_arg25, h_arg26, ← View.writes_append]
      isplitl [HW_arg16]
      · iexists _; isplitl [HW_arg16]; · iexact HW_arg16
        ipureintro; rw [h_arg13, h_arg14, h_arg15, h_arg16, h_arg17, h_arg25, h_arg26, ← View.writes_append]
      isplitl [HW_arg17]
      · iexists _; isplitl [HW_arg17]; · iexact HW_arg17
        ipureintro; rw [h_arg13, h_arg14, h_arg15, h_arg16, h_arg17, h_arg25, h_arg26, ← View.writes_append]
      isplitl [HW_arg25]
      · iexists _; isplitl [HW_arg25]; · iexact HW_arg25
        ipureintro; rw [h_arg13, h_arg14, h_arg15, h_arg16, h_arg17, h_arg25, h_arg26, ← View.writes_append]
      iexists _; isplitl [HW_arg26]; · iexact HW_arg26
      ipureintro; rw [h_arg13, h_arg14, h_arg15, h_arg16, h_arg17, h_arg25, h_arg26, ← View.writes_append]

end Cert.MainIdeal.Gen

end
-- ==== Proof.Bytes.lean ====
/- The four bytes of a 32-bit word: how the words' shifts, masks and joins act on each byte, and the two views of a
   32 × 128 array of bytes and the 8 × 128 array of words that holds it. -/
module

public import proofs.«01_k».proof.Proof.Gen.MainIdeal
public import Idealize.ShloMosaic.Lib.BitcastFour
public import Idealize.ShloMosaic.Lib.ValueLayout
public import Idealize.ShloMosaic.Lib.ValueIdxCoords
public import Idealize.ShloMosaic.Lib.KernelVsHost

@[expose] public section

namespace Cert.MainIdeal.Hand

open Cert.MainIdeal
open Idealize.ShloMosaic Idealize.ShloMosaic.ValueIdx

/-- Byte `i` of a word. -/
def byteOf (w : BitVec 32) (i : Nat) : BitVec 8 := w.extractLsb' (8 * i) 8

theorem byteOf_getLsbD (w : BitVec 32) (i q : Nat) : (byteOf w i).getLsbD q = (decide (q < 8) && w.getLsbD (8 * i + q)) := by
  simp [byteOf, BitVec.getLsbD_extractLsb']

theorem byteOf_low (w : BitVec 32) (i : Nat) (hi : i < 4) : byteOf (w &&& 0x0F0F0F0F#32) i = byteOf w i &&& 15#8 := by
  apply BitVec.eq_of_getLsbD_eq; intro q hq
  have : q < 8 := hq
  simp only [byteOf_getLsbD, BitVec.getLsbD_and]
  interval_cases i <;> interval_cases q <;> simp

theorem byteOf_low_shr (w : BitVec 32) (i : Nat) (hi : i < 4) : byteOf (w >>> 4 &&& 0x0F0F0F0F#32) i = byteOf w i >>> 4 := by
  apply BitVec.eq_of_getLsbD_eq; intro q hq
  have : q < 8 := hq
  simp only [byteOf_getLsbD, BitVec.getLsbD_and, BitVec.getLsbD_ushiftRight]
  interval_cases i <;> interval_cases q <;> simp

theorem byteOf_high (w : BitVec 32) (i : Nat) (hi : i < 4) : byteOf (w &&& 0xF0F0F0F0#32) i = byteOf w i &&& 240#8 := by
  apply BitVec.eq_of_getLsbD_eq; intro q hq
  have : q < 8 := hq
  simp only [byteOf_getLsbD, BitVec.getLsbD_and]
  interval_cases i <;> interval_cases q <;> simp

theorem byteOf_high_shl (w : BitVec 32) (i : Nat) (hi : i < 4) : byteOf (w <<< 4 &&& 0xF0F0F0F0#32) i = byteOf w i <<< 4 := by
  apply BitVec.eq_of_getLsbD_eq; intro q hq
  have : q < 8 := hq
  simp only [byteOf_getLsbD, BitVec.getLsbD_and, BitVec.getLsbD_shiftLeft]
  interval_cases i <;> interval_cases q <;> simp

theorem byteOf_join (w w' : BitVec 32) (i : Nat) (hi : i < 4) :
    byteOf ((w &&& 0x0F0F0F0F#32) ||| (w' &&& 0x0F0F0F0F#32) <<< 4) i = (byteOf w i &&& 15#8) ||| byteOf w' i <<< 4 := by
  apply BitVec.eq_of_getLsbD_eq; intro q hq
  have : q < 8 := hq
  simp only [byteOf_getLsbD, BitVec.getLsbD_and, BitVec.getLsbD_shiftLeft, BitVec.getLsbD_or]
  interval_cases i <;> interval_cases q <;> simp

theorem byteOf_toNat (w : BitVec 32) (i : Nat) : (byteOf w i).toNat = w.toNat / 2 ^ (8 * i) % 256 := by
  simp [byteOf, BitVec.extractLsb'_toNat, Nat.shiftRight_eq_div_pow]

/-- Adding one to every byte of a word whose bytes are below 16. -/
theorem byteOf_succ (w : BitVec 32) (h : ∀ i, i < 4 → (byteOf w i).toNat < 16) (i : Nat) (hi : i < 4) :
    byteOf (w + 0x01010101#32) i = byteOf w i + 1#8 := by
  apply BitVec.eq_of_toNat_eq
  have h0 := h 0 (by decide); have h1 := h 1 (by decide); have h2 := h 2 (by decide); have h3 := h 3 (by decide)
  rw [BitVec.toNat_add, byteOf_toNat, byteOf_toNat, BitVec.toNat_add]
  rw [byteOf_toNat] at h0 h1 h2 h3
  have hw := w.isLt
  simp only [Nat.reducePow, Nat.reduceMul, BitVec.toNat_ofNat, Nat.reduceMod] at *
  interval_cases i <;> simp only [Nat.reducePow, Nat.reduceMul] <;> omega

theorem byteOf_low_succ (w : BitVec 32) (i : Nat) (hi : i < 4) :
    byteOf ((w &&& 0x0F0F0F0F#32) + 0x01010101#32) i = (byteOf w i &&& 15#8) + 1#8 := by
  rw [byteOf_succ _ (fun j hj => ?_) i hi, byteOf_low w i hi]
  rw [byteOf_low w j hj, BitVec.toNat_and]
  exact lt_of_le_of_lt Nat.and_le_right (by decide)

theorem byteOf_low_shr_succ (w : BitVec 32) (i : Nat) (hi : i < 4) :
    byteOf ((w >>> 4 &&& 0x0F0F0F0F#32) + 0x01010101#32) i = (byteOf w i >>> 4) + 1#8 := by
  rw [byteOf_succ _ (fun j hj => ?_) i hi, byteOf_low_shr w i hi]
  rw [byteOf_low_shr w j hj, BitVec.toNat_ushiftRight, Nat.shiftRight_eq_div_pow]
  have := (byteOf w j).isLt
  omega

/-- A row of bytes in the word that holds it. -/
theorem bytes_apply (W : S8x128.Idx → BitVec 32) (h : S8x128.Bitcasts 32 S32x128 8) (r : Fin 32) (l : Fin 128) :
    bitcast S32x128 8 W h (ix2 r l) = byteOf (W (ix2 ⟨r.val / 4, by omega⟩ l)) (r.val % 4) := by
  apply BitVec.eq_of_getLsbD_eq; intro q hq
  rw [bitcast_getLsbD W h _ q hq (by decide), byteOf_getLsbD]
  have hr : S32x128.row (ix2 r l) = r.val := rfl
  have e : (S32x128.row (ix2 r l) * 8 + q) % 32 = 8 * (r.val % 4) + q := by rw [hr]; omega
  rw [e]
  simp only [hq, decide_true, Bool.true_and]
  congr 2
  funext c
  match c with
  | ⟨0, _⟩ => exact Fin.ext ((h.srcIdx_row _ _ _ ⟨0, Nat.zero_lt_two⟩ rfl).trans (by rw [hr]; show _ = r.val / 4; omega))
  | ⟨1, _⟩ => exact Fin.ext (h.srcIdx_other _ _ _ ⟨1, Nat.one_lt_two⟩ (by show ¬ 1 + 2 = 2; omega))

/-- A byte of the word that holds four rows. -/
theorem byteOf_words (x : S32x128.Idx → BitVec 8) (h : S32x128.Bitcasts 8 S8x128 32) (a : Fin 8) (l : Fin 128) (i : Nat)
    (hi : i < 4) : byteOf (bitcast S8x128 32 x h (ix2 a l)) i = x (ix2 ⟨4 * a.val + i, by omega⟩ l) := by
  apply BitVec.eq_of_getLsbD_eq; intro q hq
  rw [byteOf_getLsbD, bitcast_8_32_getLsbD_ix2 x h a l (8 * i + q) (by omega) ⟨4 * a.val + i, by omega⟩
    (by show 4 * a.val + i = _; omega)]
  have : (8 * i + q) % 8 = q := by omega
  rw [this]; simp [hq]

/-- The byte a row is, from the words built of its own array. -/
theorem byteOf_words_row (x : S32x128.Idx → BitVec 8) (h : S32x128.Bitcasts 8 S8x128 32) (r : Fin 32) (l : Fin 128) :
    byteOf (bitcast S8x128 32 x h (ix2 ⟨r.val / 4, by omega⟩ l)) (r.val % 4) = x (ix2 r l) := by
  rw [byteOf_words x h _ l _ (by omega)]
  congr 2
  exact Fin.ext (by show 4 * (r.val / 4) + r.val % 4 = r.val; omega)

/-- A turn by half the lanes. -/
theorem turn_apply {α : Type} (x : S8x128.Idx → α) (h : S8x128.Rotates 1 none) (a : Fin 8) (l : Fin 128) :
    dynamicRotate 1 64#32 none x h (ix2 a l) = x (ix2 a ⟨(l.val + 64) % 128, by omega⟩) := by
  refine dynamicRotate_apply 1 64#32 x h _ _ fun b => ?_
  match b with
  | ⟨0, _⟩ => rfl
  | ⟨1, _⟩ => show (l.val + 64) % 128 = (l.val + 128 - 64 % 128) % 128; omega

end Cert.MainIdeal.Hand
-- ==== Proof.Block.lean ====
/- One block of 32 rows and 128 columns as the inner loop computes it: the two blocks a pair of byte columns holds, the
   two moments, the update, the new weights, the block's largest first moment, and the two packed codes. -/
module

public import proofs.«01_k».proof.Proof.Bytes
public import proofs.«01_k».proof.Proof.Gen.MainIdeal

@[expose] public section

noncomputable section

namespace Cert.MainIdeal.Hand

open Cert.MainIdeal Cert.MainIdeal.Gen
open Idealize.ShloMosaic Idealize.SL.Sem

variable {F : FTy → Type} [FloatOps F] [Named F]

/-- The left half of the lanes. -/
def leftLanes : IVec S8x128 1 := cmpi .slt (iota .tc S8x128 32 [1] iota_S8x128_d1_w32) (broadcast S8x128 64#32)

/-- The words of a block of bytes. -/
def wordsOf (x : IVec S32x128 8) : IVec S8x128 32 :=
  bitcast S8x128 32 (shapeCast S32x128 x shapeCasts_S32x128_S32x128) bitcasts_S32x128_w8_S8x128_w32

/-- A word array turned by half the lanes. -/
def turn (w : IVec S8x128 32) : IVec S8x128 32 := dynamicRotate 1 64#32 none w rotates_S8x128_d1

/-- The second moment's codes plus one, for the block of the low bytes' half (`false`) and the other (`true`). -/
def vTerm (h : Bool) (x : IVec S32x128 8) : FVec F S32x128 .f32 :=
  extf .f32 (sitofp .bf16 (bitcast S32x128 8 (addi (andi
    (match h with
      | false => select leftLanes (wordsOf x) (shrui (turn (wordsOf x)) (broadcast S8x128 4#32))
      | true => select leftLanes (turn (wordsOf x)) (shrui (wordsOf x) (broadcast S8x128 4#32)))
    (broadcast S8x128 252645135#32)) (broadcast S8x128 16843009#32)) bitcasts_S8x128_w32_S32x128_w8)) bitsLt_bf16_f32

/-- The first moment's signed codes, sixteen times each, times their own size. -/
def mTerm (h : Bool) (x : IVec S32x128 8) : FVec F S32x128 .f32 :=
  have c : FVec F S32x128 .bf16 := sitofp .bf16 (bitcast S32x128 8 (andi
    (match h with
      | false => select leftLanes (shli (wordsOf x) (broadcast S8x128 4#32)) (turn (wordsOf x))
      | true => select leftLanes (shli (turn (wordsOf x)) (broadcast S8x128 4#32)) (wordsOf x))
    (broadcast S8x128 4042322160#32)) bitcasts_S8x128_w32_S32x128_w8)
  extf .f32 (mulf c (absf c)) bitsLt_bf16_f32

/-- A block in tiles of eight rows. -/
def tiles (x : FVec F S32x128 .f32) : FVec F S4x8x128 .f32 := shapeCast S4x8x128 x shapeCasts_S32x128_S4x8x128

/-- Eight rows for every tile. -/
def eachTile (x : FVec F S8x128 .f32) : FVec F S4x8x128 .f32 :=
  broadcastTo S4x8x128 (shapeCast S1x8x128 x shapeCasts_S8x128_S1x8x128) broadcasts_S1x8x128_S4x8x128

/-- A block of half-width floats at full width, in tiles. -/
def wide (x : FVec F S32x128 .bf16) : FVec F S4x8x128 .f32 :=
  tiles (extf .f32 (shapeCast S32x128 x shapeCasts_S32x128_S32x128) bitsLt_bf16_f32)

/-- The first moment, ten times. -/
def mBlock (g : FVec F S32x128 .bf16) (t : FVec F S32x128 .f32) (ms : FVec F S32x1 .f32) : FVec F S4x8x128 .f32 :=
  addf (wide g) (tiles (mulf t (broadcastTo S32x128 ms broadcasts_S32x1_S32x128)))

/-- The second moment, twenty times. -/
def aBlock (g : FVec F S32x128 .bf16) (t rn : FVec F S32x128 .f32) (cn : FVec F S8x128 .f32) : FVec F S4x8x128 .f32 :=
  addf (mulf (wide g) (wide g)) (mulf (tiles t) (minimumf (tiles rn) (eachTile cn)))

/-- The update. -/
def uBlock (e k : FVec F S1x8x128 .f32) (a m : FVec F S4x8x128 .f32) : FVec F S4x8x128 .f32 :=
  mulf (mulf m (reciprocal true (addf (reciprocal true (rsqrt a)) (broadcastTo S4x8x128 e broadcasts_S1x8x128_S4x8x128))))
    (broadcastTo S4x8x128 k broadcasts_S1x8x128_S4x8x128)

/-- The new weights. -/
def pBlock (lr dec : F .f32) (w : FVec F S32x128 .bf16) (u : FVec F S4x8x128 .f32) : FVec F S4x8x128 .f32 :=
  subf (mulf (wide w) (broadcast S4x8x128 dec)) (mulf u (broadcast S4x8x128 lr))

/-- Tiles back in one block of half-width floats. -/
def narrow (x : FVec F S4x8x128 .f32) : FVec F S32x128 .bf16 :=
  truncf .bf16 (shapeCast S32x128 x shapeCasts_S4x8x128_S32x128) bitsLt_bf16_f32

/-- Every row's largest first moment. -/
def mMax (m : FVec F S4x8x128 .f32) : FVec F S4x8x1 .f32 :=
  shapeCast S4x8x1 (multiReduction .maximumf [2] S4x8 (absf m) 0xFF800000#32 reduces_S4x8x128_S4x8 (.inl rfl) rfl)
    shapeCasts_S4x8_S4x8x1

/-- The new scale of every row. -/
def sBlock (m : FVec F S4x8x128 .f32) : FVec F S32x1 .f32 :=
  mulf (shapeCast S32x1 (mMax m) shapeCasts_S4x8x1_S32x1)
    (broadcast S32x1 (Named.named κ "one_minus_beta1" 0x3DCCCCCD#32 : F .f32))

/-- The rounding constant taken off, rounded, and put back as a word. -/
def roundWord (x : FVec F S4x8x128 .f32) : IVec S32x128 32 :=
  addi (fptosi 32 (roundeven (subf (shapeCast S32x128 x shapeCasts_S4x8x128_S32x128)
    (broadcast S32x128 (Scalar.ofBits .f32 0x4B400000#32 : F .f32))))) (broadcast S32x128 1262485504#32)

/-- The second moment's new codes. -/
def vWord (rr : FVec F S32x128 .f32) (a : FVec F S4x8x128 .f32) (cr : FVec F S8x128 .f32) : IVec S32x128 32 :=
  roundWord (minimumf (broadcast S4x8x128 (Scalar.ofBits .f32 0x4B40000F#32 : F .f32))
    (maximumf (broadcast S4x8x128 (Scalar.ofBits .f32 0x4B400000#32 : F .f32))
      (addf (mulf a (maximumf (tiles rr) (eachTile cr))) (broadcast S4x8x128 (Scalar.ofBits .f32 0x4B3FFFFF#32 : F .f32)))))

/-- The first moment's new codes. -/
def mWord (m : FVec F S4x8x128 .f32) : IVec S32x128 32 :=
  roundWord (addf (minimumf (broadcast S4x8x128 (Scalar.ofBits .f32 0x40E00000#32 : F .f32))
    (maximumf (broadcast S4x8x128 (Scalar.ofBits .f32 0xC0E00000#32 : F .f32))
      (mulf (mulf m (rsqrt (maximumf (absf m) (broadcast S4x8x128 (Named.named κ "tiny" 0x00800000#32 : F .f32)))))
        (broadcastTo S4x8x128 (mulf (broadcast S4x8x1 (Scalar.ofBits .f32 0x40E00000#32 : F .f32))
          (rsqrt (maximumf (mMax m) (broadcast S4x8x1 (Named.named κ "tiny" 0x00800000#32 : F .f32)))))
          broadcasts_S4x8x1_S4x8x128))))
    (broadcast S4x8x128 (Scalar.ofBits .f32 0x4B400000#32 : F .f32)))

/-- The words of a block of codes, low halves of the bytes only. -/
def nibbles (z : IVec S32x128 32) : IVec S8x128 32 :=
  andi (bitcast S8x128 32 (trunci 8 z natLt_8_32) bitcasts_S32x128_w8_S8x128_w32) (broadcast S8x128 252645135#32)

/-- Two blocks of codes packed in one block of bytes. -/
def packBlock (z₀ z₁ : IVec S32x128 32) : IVec S32x128 8 :=
  bitcast S32x128 8 (select leftLanes
    (ori (nibbles z₀) (shli (turn (nibbles z₀)) (broadcast S8x128 4#32)))
    (ori (turn (nibbles z₁)) (shli (nibbles z₁) (broadcast S8x128 4#32)))) bitcasts_S8x128_w32_S32x128_w8

end Cert.MainIdeal.Hand

end
-- ==== Proof.Pieces.lean ====
/- What one trip of the inner loop writes: every store is a block of `Block.lean` computed from the contents under the
   trip's rows, at the block's place. -/
module

public import proofs.«01_k».proof.Proof.Block
public import proofs.«01_k».proof.Proof.UnitLoopIdeal
public import Idealize.ShloMosaic.Lib.Writes

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The part of an array from row `o₀` and column `o₁` on. -/
def cut {α : Type} {R C : ℕ} [NeZero R] [NeZero C] (n m : ℕ) (X : (⟨2, ![R, C]⟩ : Shape).Idx → α) (o₀ o₁ : ℕ) :
    (⟨2, ![n, m]⟩ : Shape).Idx → α :=
  fun i => X (ix2 (Fin.ofNat R (o₀ + (i 0).val)) (Fin.ofNat C (o₁ + (i 1).val)))

/-- A load through a rectangle is the part it names. -/
theorem readAt_cut {κ : Kind} {sp : Space} {e : EltTy} {R C n m : ℕ} [NeZero R] [NeZero C]
    (v : View sig κ sp (⟨2, ![R, C]⟩ : Shape) e) (f : v.ty.Contents (Elt F)) (off : Fin 2 → ℕ) (o₀ o₁ : ℕ)
    (h : off = ![o₀, o₁]) (inb : ∀ a : Fin 2, off a + (![n, m] : Fin 2 → ℕ) a ≤ (⟨2, ![R, C]⟩ : Shape).size a) :
    v.readAt (Elt F) (Rect.unit (s := (⟨2, ![R, C]⟩ : Shape)) off ![n, m] inb).toLoadRect f
      = cut n m (v.read (Elt F) f) o₀ o₁ := by
  subst h
  funext x
  show v.read (Elt F) f _ = v.read (Elt F) f _
  congr 1
  funext a
  have h0 := inb 0
  have h1 := inb 1
  match a with
  | ⟨0, _⟩ =>
    refine Fin.ext ?_
    show o₀ + 1 * (x 0).val = (o₀ + (x 0).val) % R
    have : (x 0).val < n := (x 0).isLt
    have h0' : o₀ + n ≤ R := h0
    rw [Nat.mod_eq_of_lt (by omega)]; omega
  | ⟨1, _⟩ =>
    refine Fin.ext ?_
    show o₁ + 1 * (x 1).val = (o₁ + (x 1).val) % C
    have : (x 1).val < m := (x 1).isLt
    have h1' : o₁ + m ≤ C := h1
    rw [Nat.mod_eq_of_lt (by omega)]; omega

/-- What the inner loop reads. -/
structure Loads (F : FTy → Type) where
  g : S128x4096.Idx → F .bf16
  w : S128x4096.Idx → F .bf16
  mc : S128x2048.Idx → BitVec 8
  vc : S128x2048.Idx → BitVec 8
  rn : S128x128.Idx → F .f32
  rr : S128x128.Idx → F .f32
  cn : S8x4096.Idx → F .f32
  cr : S8x4096.Idx → F .f32
  ms : S128x32.Idx → F .f32
  e : FVec F S1x8x128 .f32
  k : FVec F S1x8x128 .f32
  lr : F .f32
  dec : F .f32

namespace Loads

variable (L : Loads F) (k q : ℕ)

/-- Ten first moments of block `q` of the rows of trip `k`. -/
def m : FVec F S4x8x128 .f32 :=
  mBlock (cut 32 128 L.g (32 * k) (128 * q)) (mTerm (q % 2 == 1) (cut 32 128 L.mc (32 * k) (128 * (q / 2))))
    (cut 32 1 L.ms (32 * k) q)

/-- Twenty second moments. -/
def a : FVec F S4x8x128 .f32 :=
  aBlock (cut 32 128 L.g (32 * k) (128 * q)) (vTerm (q % 2 == 1) (cut 32 128 L.vc (32 * k) (128 * (q / 2))))
    (cut 32 128 L.rn (32 * k) 0) (cut 8 128 L.cn 0 (128 * q))

/-- The update. -/
def u : FVec F S4x8x128 .f32 := uBlock L.e L.k (L.a k q) (L.m k q)

/-- The new weights. -/
def p : FVec F S4x8x128 .f32 := pBlock L.lr L.dec (cut 32 128 L.w (32 * k) (128 * q)) (L.u k q)

/-- The second moment's codes. -/
def vw : IVec S32x128 32 := vWord (cut 32 128 L.rr (32 * k) 0) (L.a k q) (cut 8 128 L.cr 0 (128 * q))

end Loads

/-- A piece that is the value `w` at the place of row `o₀`, column `o₁`. -/
def At {e : EltTy} {R C n m : ℕ} (o₀ o₁ : ℕ) (w : (⟨2, ![n, m]⟩ : Shape).Idx → Elt F e)
    (p : View.Piece (Elt F) (⟨2, ![R, C]⟩ : Shape) e) : Prop :=
  ∃ inb : ∀ a : Fin 2, (![o₀, o₁] : Fin 2 → ℕ) a + (![n, m] : Fin 2 → ℕ) a ≤ (⟨2, ![R, C]⟩ : Shape).size a,
    p = ⟨Rect.unit (s := (⟨2, ![R, C]⟩ : Shape)) ![o₀, o₁] ![n, m] inb, w⟩

theorem At.mk {e : EltTy} {R C n m : ℕ} {o₀ o₁ : ℕ} {w w' : (⟨2, ![n, m]⟩ : Shape).Idx → Elt F e} {off : Fin 2 → ℕ}
    (h : off = ![o₀, o₁]) {inb : ∀ a : Fin 2, off a + (![n, m] : Fin 2 → ℕ) a ≤ (⟨2, ![R, C]⟩ : Shape).size a}
    (hw : w' = w) :
    At o₀ o₁ w (⟨Rect.unit (s := (⟨2, ![R, C]⟩ : Shape)) off ![n, m] inb, w'⟩ : View.Piece (Elt F) (⟨2, ![R, C]⟩ : Shape) e) := by
  subst h; subst hw; exact ⟨inb, rfl⟩

/-- The blocks in the order the list holds them, the last store first. -/
def blocks : List ℕ :=
  [31, 30, 29, 28, 27, 26, 25, 24, 23, 22, 21, 20, 19, 18, 17, 16, 15, 14, 13, 12, 11, 10, 9, 8, 7, 6, 5, 4, 3, 2, 1, 0]

/-- The pairs of blocks in that order. -/
def pairs : List ℕ := [15, 14, 13, 12, 11, 10, 9, 8, 7, 6, 5, 4, 3, 2, 1, 0]

section Parts

variable {arg4 arg5 : Memref sig .tc .vmem S128x4096 .bf16} {arg6 arg8 : Memref sig .tc .vmem S128x2048 .i8}
  {arg20 arg21 : Memref sig .tc .vmem S128x128 .f32} {arg22 arg23 : Memref sig .tc .vmem S8x4096 .f32}
  {arg24 : Memref sig .tc .vmem S128x32 .f32}
  {X4 : arg4.view.ty.Contents (Elt F)} {X5 : arg5.view.ty.Contents (Elt F)} {X6 : arg6.view.ty.Contents (Elt F)}
  {X8 : arg8.view.ty.Contents (Elt F)} {X20 : arg20.view.ty.Contents (Elt F)} {X21 : arg21.view.ty.Contents (Elt F)}
  {X22 : arg22.view.ty.Contents (Elt F)} {X23 : arg23.view.ty.Contents (Elt F)} {X24 : arg24.view.ty.Contents (Elt F)}
  {e kk : FVec F S1x8x128 .f32} {lr dec : F .f32}

/-- The loop's contents, read. -/
abbrev loadsOf (arg4 arg5 : Memref sig .tc .vmem S128x4096 .bf16) (arg6 arg8 : Memref sig .tc .vmem S128x2048 .i8)
    (arg20 arg21 : Memref sig .tc .vmem S128x128 .f32) (arg22 arg23 : Memref sig .tc .vmem S8x4096 .f32)
    (arg24 : Memref sig .tc .vmem S128x32 .f32)
    (X4 : arg4.view.ty.Contents (Elt F)) (X5 : arg5.view.ty.Contents (Elt F)) (X6 : arg6.view.ty.Contents (Elt F))
    (X8 : arg8.view.ty.Contents (Elt F)) (X20 : arg20.view.ty.Contents (Elt F)) (X21 : arg21.view.ty.Contents (Elt F))
    (X22 : arg22.view.ty.Contents (Elt F)) (X23 : arg23.view.ty.Contents (Elt F)) (X24 : arg24.view.ty.Contents (Elt F))
    (e kk : FVec F S1x8x128 .f32) (lr dec : F .f32) : Loads F where
  g := arg4.view.read (Elt F) X4
  w := arg5.view.read (Elt F) X5
  mc := arg6.view.read (Elt F) X6
  vc := arg8.view.read (Elt F) X8
  rn := arg20.view.read (Elt F) X20
  rr := arg21.view.read (Elt F) X21
  cn := arg22.view.read (Elt F) X22
  cr := arg23.view.read (Elt F) X23
  ms := arg24.view.read (Elt F) X24
  e := e
  k := kk
  lr := lr
  dec := dec

theorem m_eq {k q : ℕ} {og ob om : Fin 2 → ℕ} {inb_og inb_b inb_om} (hg : og = ![32 * k, 128 * q]) (hb : ob = ![32 * k, 128 * (q / 2)]) (hm : om = ![32 * k, q]) :
    (mBlock (arg4.view.readAt (Elt F) (Rect.unit (s := S128x4096) og S32x128.size inb_og).toLoadRect X4) (mTerm (q % 2 == 1) (arg6.view.readAt (Elt F) (Rect.unit (s := S128x2048) ob S32x128.size inb_b).toLoadRect X6)) (arg24.view.readAt (Elt F) (Rect.unit (s := S128x32) om S32x1.size inb_om).toLoadRect X24)) = Loads.m (loadsOf arg4 arg5 arg6 arg8 arg20 arg21 arg22 arg23 arg24 X4 X5 X6 X8 X20 X21 X22 X23 X24 e kk lr dec) k q := by
  unfold Loads.m
  rw [← readAt_cut arg4.view X4 og _ _ hg inb_og, ← readAt_cut arg6.view X6 ob _ _ hb inb_b,
    ← readAt_cut arg24.view X24 om _ _ hm inb_om]

theorem a_eq {k q : ℕ} {og ob or oc : Fin 2 → ℕ} {inb_og inb_d inb_r inb_oc} (hg : og = ![32 * k, 128 * q]) (hb : ob = ![32 * k, 128 * (q / 2)]) (hr : or = ![32 * k, 0]) (hc : oc = ![0, 128 * q]) :
    (aBlock (arg4.view.readAt (Elt F) (Rect.unit (s := S128x4096) og S32x128.size inb_og).toLoadRect X4) (vTerm (q % 2 == 1) (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc S8x128.size inb_oc).toLoadRect X22)) = Loads.a (loadsOf arg4 arg5 arg6 arg8 arg20 arg21 arg22 arg23 arg24 X4 X5 X6 X8 X20 X21 X22 X23 X24 e kk lr dec) k q := by
  unfold Loads.a
  rw [← readAt_cut arg4.view X4 og _ _ hg inb_og, ← readAt_cut arg8.view X8 ob _ _ hb inb_d,
    ← readAt_cut arg20.view X20 or _ _ hr inb_r, ← readAt_cut arg22.view X22 oc _ _ hc inb_oc]

theorem u_eq {k q : ℕ} {og ob om or oc : Fin 2 → ℕ} {inb_og inb_b inb_om inb_d inb_r inb_oc} (hg : og = ![32 * k, 128 * q]) (hb : ob = ![32 * k, 128 * (q / 2)]) (hm : om = ![32 * k, q]) (hr : or = ![32 * k, 0]) (hc : oc = ![0, 128 * q]) :
    uBlock e kk (aBlock (arg4.view.readAt (Elt F) (Rect.unit (s := S128x4096) og S32x128.size inb_og).toLoadRect X4) (vTerm (q % 2 == 1) (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc S8x128.size inb_oc).toLoadRect X22))
      (mBlock (arg4.view.readAt (Elt F) (Rect.unit (s := S128x4096) og S32x128.size inb_og).toLoadRect X4) (mTerm (q % 2 == 1) (arg6.view.readAt (Elt F) (Rect.unit (s := S128x2048) ob S32x128.size inb_b).toLoadRect X6)) (arg24.view.readAt (Elt F) (Rect.unit (s := S128x32) om S32x1.size inb_om).toLoadRect X24)) = Loads.u (loadsOf arg4 arg5 arg6 arg8 arg20 arg21 arg22 arg23 arg24 X4 X5 X6 X8 X20 X21 X22 X23 X24 e kk lr dec) k q := by
  unfold Loads.u
  rw [← m_eq (arg4 := arg4) (arg6 := arg6) (arg24 := arg24) hg hb hm,
    ← a_eq (arg4 := arg4) (arg8 := arg8) (arg20 := arg20) (arg22 := arg22) hg hb hr hc]

theorem vw_eq {k q : ℕ} {og ob or oc : Fin 2 → ℕ} {inb_og inb_d inb_r inb_s inb_oc inb_eoc} (hg : og = ![32 * k, 128 * q]) (hb : ob = ![32 * k, 128 * (q / 2)]) (hr : or = ![32 * k, 0]) (hc : oc = ![0, 128 * q]) :
    (vWord (arg21.view.readAt (Elt F) (Rect.unit (s := S128x128) or S32x128.size inb_s).toLoadRect X21) (aBlock (arg4.view.readAt (Elt F) (Rect.unit (s := S128x4096) og S32x128.size inb_og).toLoadRect X4) (vTerm (q % 2 == 1) (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc S8x128.size inb_oc).toLoadRect X22)) (arg23.view.readAt (Elt F) (Rect.unit (s := S8x4096) oc S8x128.size inb_eoc).toLoadRect X23)) = Loads.vw (loadsOf arg4 arg5 arg6 arg8 arg20 arg21 arg22 arg23 arg24 X4 X5 X6 X8 X20 X21 X22 X23 X24 e kk lr dec) k q := by
  unfold Loads.vw
  rw [← a_eq (arg4 := arg4) (arg8 := arg8) (arg20 := arg20) (arg22 := arg22) hg hb hr hc,
    ← readAt_cut arg21.view X21 or _ _ hr inb_s, ← readAt_cut arg23.view X23 oc _ _ hc inb_eoc]

/-- The update stored. -/
theorem update_at {k q : ℕ} {og ob om or oc : Fin 2 → ℕ} {inb inb_og inb_b inb_om inb_d inb_r inb_oc val} (hg : og = ![32 * k, 128 * q])
    (hval : val = narrow (uBlock e kk (aBlock (arg4.view.readAt (Elt F) (Rect.unit (s := S128x4096) og S32x128.size inb_og).toLoadRect X4) (vTerm (q % 2 == 1) (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc S8x128.size inb_oc).toLoadRect X22))
      (mBlock (arg4.view.readAt (Elt F) (Rect.unit (s := S128x4096) og S32x128.size inb_og).toLoadRect X4) (mTerm (q % 2 == 1) (arg6.view.readAt (Elt F) (Rect.unit (s := S128x2048) ob S32x128.size inb_b).toLoadRect X6)) (arg24.view.readAt (Elt F) (Rect.unit (s := S128x32) om S32x1.size inb_om).toLoadRect X24))))
    (hb : ob = ![32 * k, 128 * (q / 2)]) (hm : om = ![32 * k, q]) (hr : or = ![32 * k, 0]) (hc : oc = ![0, 128 * q]) :
    At (F := F) (32 * k) (128 * q) (narrow (Loads.u (loadsOf arg4 arg5 arg6 arg8 arg20 arg21 arg22 arg23 arg24 X4 X5 X6 X8 X20 X21 X22 X23 X24 e kk lr dec) k q)) (⟨Rect.unit (s := S128x4096) og ![32, 128] inb, val⟩ : View.Piece (Elt F) S128x4096 .bf16) :=
  At.mk hg (hval.trans (congrArg narrow (u_eq hg hb hm hr hc)))

/-- The weights stored. -/
theorem weights_at {k q : ℕ} {og ob om or oc : Fin 2 → ℕ} {inb inb_og inb_w inb_b inb_om inb_d inb_r inb_oc val} (hg : og = ![32 * k, 128 * q])
    (hval : val = narrow (pBlock lr dec (arg5.view.readAt (Elt F) (Rect.unit (s := S128x4096) og S32x128.size inb_w).toLoadRect X5) (uBlock e kk (aBlock (arg4.view.readAt (Elt F) (Rect.unit (s := S128x4096) og S32x128.size inb_og).toLoadRect X4) (vTerm (q % 2 == 1) (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc S8x128.size inb_oc).toLoadRect X22))
      (mBlock (arg4.view.readAt (Elt F) (Rect.unit (s := S128x4096) og S32x128.size inb_og).toLoadRect X4) (mTerm (q % 2 == 1) (arg6.view.readAt (Elt F) (Rect.unit (s := S128x2048) ob S32x128.size inb_b).toLoadRect X6)) (arg24.view.readAt (Elt F) (Rect.unit (s := S128x32) om S32x1.size inb_om).toLoadRect X24)))))
    (hb : ob = ![32 * k, 128 * (q / 2)]) (hm : om = ![32 * k, q]) (hr : or = ![32 * k, 0]) (hc : oc = ![0, 128 * q]) :
    At (F := F) (32 * k) (128 * q) (narrow (Loads.p (loadsOf arg4 arg5 arg6 arg8 arg20 arg21 arg22 arg23 arg24 X4 X5 X6 X8 X20 X21 X22 X23 X24 e kk lr dec) k q)) (⟨Rect.unit (s := S128x4096) og ![32, 128] inb, val⟩ : View.Piece (Elt F) S128x4096 .bf16) :=
  At.mk hg (hval.trans (by
    unfold Loads.p
    rw [u_eq (e := e) (kk := kk) (lr := lr) (dec := dec) hg hb hm hr hc, ← readAt_cut arg5.view X5 og _ _ hg inb_w]))

/-- The scale stored. -/
theorem scale_at {k q : ℕ} {og ob om : Fin 2 → ℕ} {inb inb_og inb_b inb_om val} (hm : om = ![32 * k, q])
    (hval : val = sBlock (mBlock (arg4.view.readAt (Elt F) (Rect.unit (s := S128x4096) og S32x128.size inb_og).toLoadRect X4) (mTerm (q % 2 == 1) (arg6.view.readAt (Elt F) (Rect.unit (s := S128x2048) ob S32x128.size inb_b).toLoadRect X6)) (arg24.view.readAt (Elt F) (Rect.unit (s := S128x32) om S32x1.size inb_om).toLoadRect X24)))
    (hg : og = ![32 * k, 128 * q]) (hb : ob = ![32 * k, 128 * (q / 2)]) :
    At (F := F) (32 * k) q (sBlock (Loads.m (loadsOf arg4 arg5 arg6 arg8 arg20 arg21 arg22 arg23 arg24 X4 X5 X6 X8 X20 X21 X22 X23 X24 e kk lr dec) k q)) (⟨Rect.unit (s := S128x32) om ![32, 1] inb, val⟩ : View.Piece (Elt F) S128x32 .f32) :=
  At.mk hm (hval.trans (congrArg sBlock (m_eq hg hb hm)))

/-- The first moment's codes stored. -/
theorem mcodes_at {k q : ℕ} {ob og om og₁ om₁ : Fin 2 → ℕ} {inb inb_og inb_b inb_om inb_og₁ inb_om₁ val} (hb : ob = ![32 * k, 128 * q])
    (hval : val = packBlock (mWord (mBlock (arg4.view.readAt (Elt F) (Rect.unit (s := S128x4096) og S32x128.size inb_og).toLoadRect X4) (mTerm false (arg6.view.readAt (Elt F) (Rect.unit (s := S128x2048) ob S32x128.size inb_b).toLoadRect X6)) (arg24.view.readAt (Elt F) (Rect.unit (s := S128x32) om S32x1.size inb_om).toLoadRect X24)))
      (mWord (mBlock (arg4.view.readAt (Elt F) (Rect.unit (s := S128x4096) og₁ S32x128.size inb_og₁).toLoadRect X4) (mTerm true (arg6.view.readAt (Elt F) (Rect.unit (s := S128x2048) ob S32x128.size inb_b).toLoadRect X6)) (arg24.view.readAt (Elt F) (Rect.unit (s := S128x32) om₁ S32x1.size inb_om₁).toLoadRect X24))))
    (hg : og = ![32 * k, 128 * (2 * q)]) (hm : om = ![32 * k, 2 * q])
    (hg₁ : og₁ = ![32 * k, 128 * (2 * q + 1)]) (hm₁ : om₁ = ![32 * k, 2 * q + 1]) :
    At (F := F) (32 * k) (128 * q) (packBlock (mWord (Loads.m (loadsOf arg4 arg5 arg6 arg8 arg20 arg21 arg22 arg23 arg24 X4 X5 X6 X8 X20 X21 X22 X23 X24 e kk lr dec) k (2 * q))) (mWord (Loads.m (loadsOf arg4 arg5 arg6 arg8 arg20 arg21 arg22 arg23 arg24 X4 X5 X6 X8 X20 X21 X22 X23 X24 e kk lr dec) k (2 * q + 1))))
      (⟨Rect.unit (s := S128x2048) ob ![32, 128] inb, val⟩ : View.Piece (Elt F) S128x2048 .i8) := by
  have e₀ : (2 * q % 2 == 1) = false := by rw [Nat.mul_mod_right]; rfl
  have e₁ : ((2 * q + 1) % 2 == 1) = true := by rw [Nat.mul_add_mod]; rfl
  have d₀ : 2 * q / 2 = q := by omega
  have d₁ : (2 * q + 1) / 2 = q := by omega
  refine At.mk hb (hval.trans ?_)
  rw [← e₀, ← e₁, m_eq (e := e) (kk := kk) (lr := lr) (dec := dec) (q := 2 * q) hg (by rw [d₀]; exact hb) hm,
    m_eq (e := e) (kk := kk) (lr := lr) (dec := dec) (q := 2 * q + 1) hg₁ (by rw [d₁]; exact hb) hm₁]

/-- The second moment's codes stored. -/
theorem vcodes_at {k q : ℕ} {ob or og oc og₁ oc₁ : Fin 2 → ℕ} {inb inb_og inb_d inb_r inb_s inb_oc inb_eoc inb_og₁ inb_oc₁ inb_eoc₁ val}
    {n₀ n₁ : IVec S8x128 32} {z₀ z₁ : IVec S32x128 32} (hb : ob = ![32 * k, 128 * q])
    (hval : val = bitcast S32x128 8 (select leftLanes (ori n₀ (shli (turn n₀) (broadcast S8x128 4#32)))
      (ori (turn n₁) (shli n₁ (broadcast S8x128 4#32)))) bitcasts_S8x128_w32_S32x128_w8)
    (hn₀ : n₀ = nibbles z₀) (hn₁ : n₁ = nibbles z₁)
    (hz₀ : z₀ = (vWord (arg21.view.readAt (Elt F) (Rect.unit (s := S128x128) or S32x128.size inb_s).toLoadRect X21) (aBlock (arg4.view.readAt (Elt F) (Rect.unit (s := S128x4096) og S32x128.size inb_og).toLoadRect X4) (vTerm false (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc S8x128.size inb_oc).toLoadRect X22)) (arg23.view.readAt (Elt F) (Rect.unit (s := S8x4096) oc S8x128.size inb_eoc).toLoadRect X23)))
    (hz₁ : z₁ = (vWord (arg21.view.readAt (Elt F) (Rect.unit (s := S128x128) or S32x128.size inb_s).toLoadRect X21) (aBlock (arg4.view.readAt (Elt F) (Rect.unit (s := S128x4096) og₁ S32x128.size inb_og₁).toLoadRect X4) (vTerm true (arg8.view.readAt (Elt F) (Rect.unit (s := S128x2048) ob S32x128.size inb_d).toLoadRect X8)) (arg20.view.readAt (Elt F) (Rect.unit (s := S128x128) or S32x128.size inb_r).toLoadRect X20) (arg22.view.readAt (Elt F) (Rect.unit (s := S8x4096) oc₁ S8x128.size inb_oc₁).toLoadRect X22)) (arg23.view.readAt (Elt F) (Rect.unit (s := S8x4096) oc₁ S8x128.size inb_eoc₁).toLoadRect X23)))
    (hg : og = ![32 * k, 128 * (2 * q)]) (hc : oc = ![0, 128 * (2 * q)])
    (hg₁ : og₁ = ![32 * k, 128 * (2 * q + 1)]) (hc₁ : oc₁ = ![0, 128 * (2 * q + 1)]) (hr : or = ![32 * k, 0]) :
    At (F := F) (32 * k) (128 * q) (packBlock (Loads.vw (loadsOf arg4 arg5 arg6 arg8 arg20 arg21 arg22 arg23 arg24 X4 X5 X6 X8 X20 X21 X22 X23 X24 e kk lr dec) k (2 * q)) (Loads.vw (loadsOf arg4 arg5 arg6 arg8 arg20 arg21 arg22 arg23 arg24 X4 X5 X6 X8 X20 X21 X22 X23 X24 e kk lr dec) k (2 * q + 1)))
      (⟨Rect.unit (s := S128x2048) ob ![32, 128] inb, val⟩ : View.Piece (Elt F) S128x2048 .i8) := by
  have e₀ : (2 * q % 2 == 1) = false := by rw [Nat.mul_mod_right]; rfl
  have e₁ : ((2 * q + 1) % 2 == 1) = true := by rw [Nat.mul_add_mod]; rfl
  have d₀ : 2 * q / 2 = q := by omega
  have d₁ : (2 * q + 1) / 2 = q := by omega
  subst hn₀ hn₁
  refine At.mk hb (hval.trans ?_)
  show packBlock z₀ z₁ = _
  rw [hz₀, hz₁, ← e₀, ← e₁, vw_eq (e := e) (kk := kk) (lr := lr) (dec := dec) (q := 2 * q) hg (by rw [d₀]; exact hb) hr hc,
    vw_eq (e := e) (kk := kk) (lr := lr) (dec := dec) (q := 2 * q + 1) hg₁ (by rw [d₁]; exact hb) hr hc₁]

end Parts

end Cert.MainIdeal.Hand

end
-- ==== Proof.Assemble.lean ====
/- An array written trip by trip, block by block: it holds at every place the block of its trip and column, when every
   trip stores one block per column. -/
module

public import proofs.«01_k».proof.Proof.Pieces

@[expose] public section

noncomputable section

namespace Cert.MainIdeal.Hand

open Cert.MainIdeal Cert.MainIdeal.Gen
open Idealize.ShloMosaic Idealize.ShloMosaic.ValueIdx Idealize.SL.Sem

variable {F : FTy → Type} [FloatOps F] [Named F]

/-- The array whose block of rows `k` and columns `q` is `W k q`. -/
def whole {α : Type} {C m : ℕ} [NeZero m] (W : ℕ → ℕ → (⟨2, ![32, m]⟩ : Shape).Idx → α) : (⟨2, ![128, C]⟩ : Shape).Idx → α :=
  fun y => W ((y 0).val / 32) ((y 1).val / m) (ix2 (Fin.ofNat 32 (y 0).val) (Fin.ofNat m (y 1).val))

section

variable {e : EltTy} {C m : ℕ} [NeZero m]

theorem At.value {k q : ℕ} {W : ℕ → ℕ → (⟨2, ![32, m]⟩ : Shape).Idx → Elt F e}
    {p : View.Piece (Elt F) (⟨2, ![128, C]⟩ : Shape) e} (h : At (32 * k) (m * q) (W k q) p) :
    ∀ x, p.2 x = whole W (p.1.emb x) := by
  obtain ⟨inb, rfl⟩ := h
  intro x
  have h0 : (x 0).val < 32 := (x 0).isLt
  have h1 : (x 1).val < m := (x 1).isLt
  have e0 : 32 * k + 1 * (x 0).val = (x 0).val + 32 * k := by ring
  have e1 : m * q + 1 * (x 1).val = (x 1).val + m * q := by ring
  show W k q x = W ((32 * k + 1 * (x 0).val) / 32) ((m * q + 1 * (x 1).val) / m)
    (ix2 (Fin.ofNat 32 (32 * k + 1 * (x 0).val)) (Fin.ofNat m (m * q + 1 * (x 1).val)))
  rw [e0, e1, Nat.add_mul_div_left _ _ (by decide), Nat.add_mul_div_left _ _ (NeZero.pos m), Nat.div_eq_of_lt h0,
    Nat.div_eq_of_lt h1, Nat.zero_add, Nat.zero_add]
  congr 1
  funext a
  match a with
  | ⟨0, _⟩ => exact Fin.ext (by show (x 0).val = ((x 0).val + 32 * k) % 32; rw [Nat.add_mul_mod_self_left, Nat.mod_eq_of_lt h0])
  | ⟨1, _⟩ => exact Fin.ext (by show (x 1).val = ((x 1).val + m * q) % m; rw [Nat.add_mul_mod_self_left, Nat.mod_eq_of_lt h1])

theorem At.mem {k q : ℕ} {w : (⟨2, ![32, m]⟩ : Shape).Idx → Elt F e}
    {p : View.Piece (Elt F) (⟨2, ![128, C]⟩ : Shape) e} (h : At (32 * k) (m * q) w p)
    (y : (⟨2, ![128, C]⟩ : Shape).Idx) (h0 : (y 0).val / 32 = k) (h1 : (y 1).val / m = q) : y ∈ p.1.set := by
  obtain ⟨inb, rfl⟩ := h
  rw [← Rect.map_emb_univ, Finset.mem_map]
  refine ⟨ix2 (Fin.ofNat 32 (y 0).val) (Fin.ofNat m (y 1).val), Finset.mem_univ _, ?_⟩
  funext a
  match a with
  | ⟨0, _⟩ =>
    refine Fin.ext ?_
    show 32 * k + 1 * ((y 0).val % 32) = (y 0).val
    rw [← h0, Nat.one_mul, Nat.div_add_mod]
  | ⟨1, _⟩ =>
    refine Fin.ext ?_
    show m * q + 1 * ((y 1).val % m) = (y 1).val
    rw [← h1, Nat.one_mul, Nat.div_add_mod]

/-- What a list of trips' pieces leaves, when the trips cover the array. -/
theorem whole_of_trips {N : ℕ} {qs : List ℕ} {W : ℕ → ℕ → (⟨2, ![32, m]⟩ : Shape).Idx → Elt F e}
    (T : ℕ → List (View.Piece (Elt F) (⟨2, ![128, C]⟩ : Shape) e)) (h0 : T 0 = [])
    (hs : ∀ k : Fin N, ∃ t, T (k.val + 1) = t ++ T k.val ∧ List.Forall₂ (fun q p => At (32 * k.val) (m * q) (W k.val q) p) qs t)
    (hN : N = 4) (hq : ∀ c, c < C → c / m ∈ qs)
    {κ : Kind} {sp : Space} (v : View sig κ sp (⟨2, ![128, C]⟩ : Shape) e) (f : v.ty.Contents (Elt F)) :
    v.read (Elt F) (v.writes (Elt F) f (T N)) = whole W := by
  have key : ∀ n, n ≤ N → (∀ p ∈ T n, ∀ x, p.2 x = whole W (p.1.emb x)) ∧
      (∀ y : (⟨2, ![128, C]⟩ : Shape).Idx, (y 0).val / 32 < n → ∃ p ∈ T n, y ∈ p.1.set) := by
    intro n
    induction n with
    | zero => intro _; rw [h0]; exact ⟨fun p hp => absurd hp List.not_mem_nil, fun y hy => absurd hy (Nat.not_lt_zero _)⟩
    | succ n ih =>
      intro hn
      obtain ⟨ih1, ih2⟩ := ih (by omega)
      obtain ⟨t, ht, hf⟩ := hs ⟨n, by omega⟩
      have ht' : T (n + 1) = t ++ T n := ht
      rw [ht']
      constructor
      · intro p hp
        rcases List.mem_append.mp hp with hp | hp
        · obtain ⟨i, hi, rfl⟩ := List.mem_iff_getElem.mp hp
          exact At.value ((List.forall₂_iff_get.mp hf).2 i (by rw [hf.length_eq]; exact hi) hi)
        · exact ih1 p hp
      · intro y hy
        rcases Nat.lt_or_ge ((y 0).val / 32) n with h | h
        · obtain ⟨p, hp, hy'⟩ := ih2 y h
          exact ⟨p, List.mem_append_right _ hp, hy'⟩
        · obtain ⟨i, hi, hiq⟩ := List.mem_iff_getElem.mp (hq (y 1).val (y 1).isLt)
          have hi' : i < t.length := by rw [← hf.length_eq]; exact hi
          refine ⟨t[i], List.mem_append_left _ (List.getElem_mem hi'), ?_⟩
          have hat := (List.forall₂_iff_get.mp hf).2 i hi hi'
          exact At.mem hat y (by show _ = n; omega) hiq.symm
  obtain ⟨k1, k2⟩ := key N le_rfl
  funext y
  refine View.read_writes_apply_of_pieces v f (whole W) (T N) k1 y (k2 y ?_)
  have : (y 0).val < 128 := (y 0).isLt
  omega

end

theorem trips_eq : k0_t1_loop.trips = 4 := by rfl

end Cert.MainIdeal.Hand

end
-- ==== Proof.TripUpdate.lean ====
/- The stores of one trip of the inner loop, block by block. -/
module

public import proofs.«01_k».proof.Proof.Pieces

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The updates a trip stores. -/
theorem trip_update (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) :
    List.Forall₂ (fun q p => At (F := F) (32 * k.val) (128 * q) (narrow (Loads.u (loadsOf arg4 arg5 arg6 arg8 arg20 arg21 arg22 arg23 arg24 X_arg4 X_arg5 X_arg6 X_arg8 X_arg20 X_arg21 X_arg22 X_arg23 X_arg24 v112 v116 v118 v122) k.val q)) p) blocks ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.1 f_arg13 f_arg14 f_arg15 f_arg16 f_arg17 f_arg25 f_arg26) := by
  unfold trip_k0_t1
  dsimp only
  unfold blocks
  repeat' refine List.Forall₂.cons ?_ ?_
  all_goals first
    | exact update_at (hg := ClosedOff.eq) (hb := ClosedOff.eq) (hm := ClosedOff.eq) (hr := ClosedOff.eq) (hc := rfl) rfl
    | exact List.Forall₂.nil

end Cert.MainIdeal.Hand

end
-- ==== Proof.TripWeights.lean ====
/- The stores of one trip of the inner loop, block by block. -/
module

public import proofs.«01_k».proof.Proof.Pieces

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The weights a trip stores. -/
theorem trip_weights (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) :
    List.Forall₂ (fun q p => At (F := F) (32 * k.val) (128 * q) (narrow (Loads.p (loadsOf arg4 arg5 arg6 arg8 arg20 arg21 arg22 arg23 arg24 X_arg4 X_arg5 X_arg6 X_arg8 X_arg20 X_arg21 X_arg22 X_arg23 X_arg24 v112 v116 v118 v122) k.val q)) p) blocks ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).1 f_arg13 f_arg14 f_arg15 f_arg16 f_arg17 f_arg25 f_arg26) := by
  unfold trip_k0_t1
  dsimp only
  unfold blocks
  repeat' refine List.Forall₂.cons ?_ ?_
  all_goals first
    | exact weights_at (hg := ClosedOff.eq) (hb := ClosedOff.eq) (hm := ClosedOff.eq) (hr := ClosedOff.eq) (hc := rfl) rfl
    | exact List.Forall₂.nil

/-- The scales a trip stores. -/
theorem trip_scale (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) :
    List.Forall₂ (fun q p => At (F := F) (32 * k.val) (q) (sBlock (Loads.m (loadsOf arg4 arg5 arg6 arg8 arg20 arg21 arg22 arg23 arg24 X_arg4 X_arg5 X_arg6 X_arg8 X_arg20 X_arg21 X_arg22 X_arg23 X_arg24 v112 v116 v118 v122) k.val q)) p) blocks ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.2.1 f_arg13 f_arg14 f_arg15 f_arg16 f_arg17 f_arg25 f_arg26) := by
  unfold trip_k0_t1
  dsimp only
  unfold blocks
  repeat' refine List.Forall₂.cons ?_ ?_
  all_goals first
    | exact scale_at (hm := ClosedOff.eq) (hg := ClosedOff.eq) (hb := ClosedOff.eq) rfl
    | exact List.Forall₂.nil

end Cert.MainIdeal.Hand

end
-- ==== Proof.TripCodes.lean ====
/- The stores of one trip of the inner loop, block by block. -/
module

public import proofs.«01_k».proof.Proof.Pieces

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Split

variable {arg4 arg5 : Memref sig .tc .vmem S128x4096 .bf16} {arg6 arg8 : Memref sig .tc .vmem S128x2048 .i8}
  {arg20 arg21 : Memref sig .tc .vmem S128x128 .f32} {arg22 arg23 : Memref sig .tc .vmem S8x4096 .f32}
  {arg24 : Memref sig .tc .vmem S128x32 .f32}
  {X4 : arg4.view.ty.Contents (Elt F)} {X5 : arg5.view.ty.Contents (Elt F)} {X6 : arg6.view.ty.Contents (Elt F)}
  {X8 : arg8.view.ty.Contents (Elt F)} {X20 : arg20.view.ty.Contents (Elt F)} {X21 : arg21.view.ty.Contents (Elt F)}
  {X22 : arg22.view.ty.Contents (Elt F)} {X23 : arg23.view.ty.Contents (Elt F)} {X24 : arg24.view.ty.Contents (Elt F)}
  {e kk : FVec F S1x8x128 .f32} {lr dec : F .f32}

/-- The first moment's codes stored, when the value is given by the two blocks' words and moments. -/
theorem mcodes_split {k q : ℕ} {ob og om og₁ om₁ : Fin 2 → ℕ} {inb inb_og inb_b inb_om inb_og₁ inb_om₁ val}
    (n₀ n₁ : IVec S8x128 32) (z₀ z₁ : IVec S32x128 32) (m₀ m₁ : FVec F S4x8x128 .f32) (hb : ob = ![32 * k, 128 * q])
    (hval : val = bitcast S32x128 8 (select leftLanes (ori n₀ (shli (turn n₀) (broadcast S8x128 4#32)))
      (ori (turn n₁) (shli n₁ (broadcast S8x128 4#32)))) bitcasts_S8x128_w32_S32x128_w8)
    (hn₀ : n₀ = nibbles z₀) (hn₁ : n₁ = nibbles z₁) (hz₀ : z₀ = mWord m₀) (hz₁ : z₁ = mWord m₁)
    (hm₀ : m₀ = (mBlock (arg4.view.readAt (Elt F) (Rect.unit (s := S128x4096) og S32x128.size inb_og).toLoadRect X4) (mTerm false (arg6.view.readAt (Elt F) (Rect.unit (s := S128x2048) ob S32x128.size inb_b).toLoadRect X6)) (arg24.view.readAt (Elt F) (Rect.unit (s := S128x32) om S32x1.size inb_om).toLoadRect X24)))
    (hm₁ : m₁ = (mBlock (arg4.view.readAt (Elt F) (Rect.unit (s := S128x4096) og₁ S32x128.size inb_og₁).toLoadRect X4) (mTerm true (arg6.view.readAt (Elt F) (Rect.unit (s := S128x2048) ob S32x128.size inb_b).toLoadRect X6)) (arg24.view.readAt (Elt F) (Rect.unit (s := S128x32) om₁ S32x1.size inb_om₁).toLoadRect X24)))
    (hg : og = ![32 * k, 128 * (2 * q)]) (hm : om = ![32 * k, 2 * q])
    (hg₁ : og₁ = ![32 * k, 128 * (2 * q + 1)]) (hm₁' : om₁ = ![32 * k, 2 * q + 1]) :
    At (F := F) (32 * k) (128 * q) (packBlock (mWord (Loads.m (loadsOf arg4 arg5 arg6 arg8 arg20 arg21 arg22 arg23 arg24 X4 X5 X6 X8 X20 X21 X22 X23 X24 e kk lr dec) k (2 * q))) (mWord (Loads.m (loadsOf arg4 arg5 arg6 arg8 arg20 arg21 arg22 arg23 arg24 X4 X5 X6 X8 X20 X21 X22 X23 X24 e kk lr dec) k (2 * q + 1))))
      (⟨Rect.unit (s := S128x2048) ob ![32, 128] inb, val⟩ : View.Piece (Elt F) S128x2048 .i8) := by
  subst hn₀ hn₁ hz₀ hz₁ hm₀ hm₁
  exact mcodes_at (hb := hb) hval hg hm hg₁ hm₁'

end Split

/-- Words of the second block still to be built from its moments, and packed. -/
theorem pack_late (z : IVec S32x128 32) (m : FVec F S4x8x128 .f32) :
    k0_pay494 leftLanes z m (k0_pay491 m) (k0_pay492 m) = packBlock z (mWord m) := rfl

/-- The first moment's codes a trip stores. -/
theorem trip_mcodes (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (k : Fin k0_t1_loop.trips) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg25 : BufTy.Contents (Elt F) arg25.view.ty) (f_arg26 : BufTy.Contents (Elt F) arg26.view.ty) :
    List.Forall₂ (fun q p => At (F := F) (32 * k.val) (128 * q) (packBlock (mWord (Loads.m (loadsOf arg4 arg5 arg6 arg8 arg20 arg21 arg22 arg23 arg24 X_arg4 X_arg5 X_arg6 X_arg8 X_arg20 X_arg21 X_arg22 X_arg23 X_arg24 v112 v116 v118 v122) k.val (2 * q))) (mWord (Loads.m (loadsOf arg4 arg5 arg6 arg8 arg20 arg21 arg22 arg23 arg24 X_arg4 X_arg5 X_arg6 X_arg8 X_arg20 X_arg21 X_arg22 X_arg23 X_arg24 v112 v116 v118 v122) k.val (2 * q + 1)))) p) pairs ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 k).2.2.1 f_arg13 f_arg14 f_arg15 f_arg16 f_arg17 f_arg25 f_arg26) := by
  unfold trip_k0_t1
  dsimp only
  unfold pairs
  iterate 5 refine List.Forall₂.cons (mcodes_at (hb := ClosedOff.eq) rfl ClosedOff.eq ClosedOff.eq ClosedOff.eq ClosedOff.eq) ?_
  refine List.Forall₂.cons ?_ ?_
  · exact mcodes_split (nibbles (trip_k0_t1.sl.v3483 arg4 arg6 arg24 X_arg4 X_arg6 X_arg24 k)) (nibbles (mWord (trip_k0_t1.sl.v3494 arg4 arg6 arg24 X_arg4 X_arg6 X_arg24 k))) (trip_k0_t1.sl.v3483 arg4 arg6 arg24 X_arg4 X_arg6 X_arg24 k) _ _ (trip_k0_t1.sl.v3494 arg4 arg6 arg24 X_arg4 X_arg6 X_arg24 k)
      ClosedOff.eq (pack_late _ _) rfl rfl rfl rfl rfl rfl ClosedOff.eq ClosedOff.eq ClosedOff.eq ClosedOff.eq
  iterate 5 refine List.Forall₂.cons (mcodes_at (hb := ClosedOff.eq) rfl ClosedOff.eq ClosedOff.eq ClosedOff.eq ClosedOff.eq) ?_
  refine List.Forall₂.cons ?_ ?_
  · exact mcodes_split (trip_k0_t1.sl.v1737 arg4 arg6 arg24 X_arg4 X_arg6 X_arg24 k) (trip_k0_t1.sl.v1741 arg4 arg6 arg24 X_arg4 X_arg6 X_arg24 k) (trip_k0_t1.sl.r_40 arg4 arg6 arg24 X_arg4 X_arg6 X_arg24 k) (trip_k0_t1.sl.r_45 arg4 arg6 arg24 X_arg4 X_arg6 X_arg24 k) _ (trip_k0_t1.sl.r_41 arg4 arg6 arg24 X_arg4 X_arg6 X_arg24 k)
      ClosedOff.eq rfl rfl rfl rfl rfl rfl rfl ClosedOff.eq ClosedOff.eq ClosedOff.eq ClosedOff.eq
  iterate 4 refine List.Forall₂.cons (mcodes_at (hb := ClosedOff.eq) rfl ClosedOff.eq ClosedOff.eq ClosedOff.eq ClosedOff.eq) ?_
  exact List.Forall₂.nil

end Cert.MainIdeal.Hand

end
-- ==== Proof.Loop.lean ====
/- What the inner loop leaves in the five result blocks: at every place the block of its rows and columns. -/
module

public import proofs.«01_k».proof.Proof.Assemble
public import proofs.«01_k».proof.Proof.TripUpdate
public import proofs.«01_k».proof.Proof.TripWeights
public import proofs.«01_k».proof.Proof.TripCodes

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The updates of 128 rows. -/
def outU (L : Loads F) : S128x4096.Idx → F .bf16 := whole (m := 128) fun k q => narrow (L.u k q)
/-- The new weights of 128 rows. -/
def outP (L : Loads F) : S128x4096.Idx → F .bf16 := whole (m := 128) fun k q => narrow (L.p k q)
/-- The new scales of 128 rows. -/
def outS (L : Loads F) : S128x32.Idx → F .f32 := whole (m := 1) fun k q => sBlock (L.m k q)
/-- The first moment's packed codes of 128 rows. -/
def outM (L : Loads F) : S128x2048.Idx → BitVec 8 :=
  whole (m := 128) fun k t => packBlock (mWord (L.m k (2 * t))) (mWord (L.m k (2 * t + 1)))
/-- The second moment's packed codes of 128 rows. -/
def outV (L : Loads F) : S128x2048.Idx → BitVec 8 :=
  whole (m := 128) fun k t => packBlock (L.vw k (2 * t)) (L.vw k (2 * t + 1))

theorem blocks_mem (C m : ℕ) (h : C = m * 32) (hm : 0 < m) (c : ℕ) (hc : c < C) : c / m ∈ blocks := by
  have : c / m < 32 := Nat.div_lt_of_lt_mul (h ▸ hc)
  generalize c / m = d at this
  unfold blocks
  interval_cases d <;> simp

theorem pairs_mem (C m : ℕ) (h : C = m * 16) (hm : 0 < m) (c : ℕ) (hc : c < C) : c / m ∈ pairs := by
  have : c / m < 16 := Nat.div_lt_of_lt_mul (h ▸ hc)
  generalize c / m = d at this
  unfold pairs
  interval_cases d <;> simp

theorem loop_update (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (L : Loads F)
    (hL : (loadsOf arg4 arg5 arg6 arg8 arg20 arg21 arg22 arg23 arg24 X_arg4 X_arg5 X_arg6 X_arg8 X_arg20 X_arg21 X_arg22 X_arg23 X_arg24 v112 v116 v118 v122) = L) :
    arg14.view.read (Elt F) (arg14.view.writes (Elt F) G_arg14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k0_t1_loop.trips).2.1) = outU L := by
  subst hL
  refine whole_of_trips (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 n).2.1) rfl (fun k => ?_) trips_eq (blocks_mem _ _ (by decide) (by decide)) arg14.view G_arg14
  have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k
  refine ⟨_, congrArg (fun z => z.2.1) h, ?_⟩
  exact trip_update ..

theorem loop_weights (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (L : Loads F)
    (hL : (loadsOf arg4 arg5 arg6 arg8 arg20 arg21 arg22 arg23 arg24 X_arg4 X_arg5 X_arg6 X_arg8 X_arg20 X_arg21 X_arg22 X_arg23 X_arg24 v112 v116 v118 v122) = L) :
    arg13.view.read (Elt F) (arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k0_t1_loop.trips).1) = outP L := by
  subst hL
  refine whole_of_trips (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 n).1) rfl (fun k => ?_) trips_eq (blocks_mem _ _ (by decide) (by decide)) arg13.view G_arg13
  have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k
  refine ⟨_, congrArg (fun z => z.1) h, ?_⟩
  exact trip_weights ..

theorem loop_scale (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (L : Loads F)
    (hL : (loadsOf arg4 arg5 arg6 arg8 arg20 arg21 arg22 arg23 arg24 X_arg4 X_arg5 X_arg6 X_arg8 X_arg20 X_arg21 X_arg22 X_arg23 X_arg24 v112 v116 v118 v122) = L) :
    arg16.view.read (Elt F) (arg16.view.writes (Elt F) G_arg16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k0_t1_loop.trips).2.2.2.1) = outS L := by
  subst hL
  refine whole_of_trips (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 n).2.2.2.1) rfl (fun k => ?_) trips_eq (blocks_mem _ _ (by decide) (by decide)) arg16.view G_arg16
  have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k
  refine ⟨_, congrArg (fun z => z.2.2.2.1) h, ?_⟩
  simp only [Nat.one_mul]
  exact trip_scale ..

theorem loop_mcodes (𝒱 : Variants) (c : Dev nD) (bd : Option 𝒱.V) (i : grid0.Coords) (arg1 : Memref sig .tc .smem S3 .i32) (harg1 : arg1.IsWhole) (arg2 : Memref sig .tc .smem S3 .f32) (harg2 : arg2.IsWhole) (arg3 : Memref sig .tc .smem S3 .f32) (harg3 : arg3.IsWhole) (arg4 : Memref sig .tc .vmem S128x4096 .bf16) (harg4 : arg4.IsWhole) (arg5 : Memref sig .tc .vmem S128x4096 .bf16) (harg5 : arg5.IsWhole) (arg6 : Memref sig .tc .vmem S128x2048 .i8) (harg6 : arg6.IsWhole) (arg7 : Memref sig .tc .vmem S128x32 .f32) (harg7 : arg7.IsWhole) (arg8 : Memref sig .tc .vmem S128x2048 .i8) (harg8 : arg8.IsWhole) (arg9 : Memref sig .tc .vmem S3x5504 .f32) (harg9 : arg9.IsWhole) (arg10 : Memref sig .tc .vmem S3x4096 .f32) (harg10 : arg10.IsWhole) (arg11 : Memref sig .tc .vmem S3x5504 .f32) (harg11 : arg11.IsWhole) (arg12 : Memref sig .tc .vmem S3x4096 .f32) (harg12 : arg12.IsWhole) (arg13 : Memref sig .tc .vmem S128x4096 .bf16) (harg13 : arg13.IsWhole) (arg14 : Memref sig .tc .vmem S128x4096 .bf16) (harg14 : arg14.IsWhole) (arg15 : Memref sig .tc .vmem S128x2048 .i8) (harg15 : arg15.IsWhole) (arg16 : Memref sig .tc .vmem S128x32 .f32) (harg16 : arg16.IsWhole) (arg17 : Memref sig .tc .vmem S128x2048 .i8) (harg17 : arg17.IsWhole) (arg18 : Memref sig .tc .vmem S128x4096 .fp8e4m3) (harg18 : arg18.IsWhole) (arg19 : Memref sig .tc .vmem S3x43x32 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S8x4096 .f32) (harg22 : arg22.IsWhole) (arg23 : Memref sig .tc .vmem S8x4096 .f32) (harg23 : arg23.IsWhole) (arg24 : Memref sig .tc .vmem S128x32 .f32) (harg24 : arg24.IsWhole) (arg25 : Memref sig .tc .vmem S128x4096 .f32) (harg25 : arg25.IsWhole) (arg26 : Memref sig .tc .vmem S32x8x128 .f32) (harg26 : arg26.IsWhole) (arg27 : Memref sig .tc .vmem S32x128 .f32) (harg27 : arg27.IsWhole) (v112 : FVec F S1x8x128 .f32) (v116 : FVec F S1x8x128 .f32) (v118 : Elt F .f32) (v122 : F .f32) (X_arg4 : BufTy.Contents (Elt F) arg4.view.ty) (X_arg5 : BufTy.Contents (Elt F) arg5.view.ty) (X_arg6 : BufTy.Contents (Elt F) arg6.view.ty) (X_arg8 : BufTy.Contents (Elt F) arg8.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (X_arg24 : BufTy.Contents (Elt F) arg24.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg25 : BufTy.Contents (Elt F) arg25.view.ty) (G_arg26 : BufTy.Contents (Elt F) arg26.view.ty) (L : Loads F)
    (hL : (loadsOf arg4 arg5 arg6 arg8 arg20 arg21 arg22 arg23 arg24 X_arg4 X_arg5 X_arg6 X_arg8 X_arg20 X_arg21 X_arg22 X_arg23 X_arg24 v112 v116 v118 v122) = L) :
    arg15.view.read (Elt F) (arg15.view.writes (Elt F) G_arg15 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k0_t1_loop.trips).2.2.1) = outM L := by
  subst hL
  refine whole_of_trips (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 n).2.2.1) rfl (fun k => ?_) trips_eq (pairs_mem _ _ (by decide) (by decide)) arg15.view G_arg15
  have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v112 v116 v118 v122 X_arg4 X_arg5 X_arg6 X_arg8 X_arg20 X_arg21 X_arg22 X_arg23 X_arg24 G_arg13 G_arg14 G_arg15 G_arg16 G_arg17 G_arg25 G_arg26 k
  refine ⟨_, congrArg (fun z => z.2.2.1) h, ?_⟩
  exact trip_mcodes ..

end Cert.MainIdeal.Hand

end
-- ==== Proof.Inputs.lean ====
/- What the inner loop reads at one grid point, from the blocks and tables the point is given. -/
module

public import proofs.«01_k».proof.Proof.Loop

@[expose] public section

set_option maxRecDepth 16384

noncomputable section

namespace Cert.MainIdeal.Hand

open Cert.MainIdeal Cert.MainIdeal.Gen
open Idealize.ShloMosaic Idealize.ShloMosaic.TcCoe Idealize.ShloMosaic.ValueIdx Idealize.SL.Sem

variable {F : FTy → Type} [FloatOps F] [Named F]

/-- The layer a grid point works in. -/
def layer (i : grid0.Coords) : ℕ := (i 0).val / 43
/-- The point's place among its layer's blocks of rows. -/
def chunk (i : grid0.Coords) : ℕ := (i 0).val % 43

/-- The layer as the kernel computes it. -/
def layerWord (i : grid0.Coords) : BitVec 32 :=
  let arg0 : BitVec 32 := BitVec.ofNat 32 (i 0).val
  let v0 : BitVec 32 := Scalar.divsi arg0 43#32
  let v1 : BitVec 1 := Scalar.cmpi .sgt arg0 0#32
  let v2 : BitVec 32 := Scalar.extui v1
  let v3 : BitVec 1 := Scalar.cmpi .slt arg0 0#32
  let v4 : BitVec 32 := Scalar.extui v3
  let v5 : BitVec 32 := Scalar.subi v2 v4
  let v6 : BitVec 1 := Scalar.cmpi .sgt 43#32 0#32
  let v7 : BitVec 32 := Scalar.extui v6
  let v8 : BitVec 1 := Scalar.cmpi .slt 43#32 0#32
  let v9 : BitVec 32 := Scalar.extui v8
  let v10 : BitVec 32 := Scalar.subi v7 v9
  let v11 : BitVec 1 := Scalar.cmpi .ne v5 v10
  let v12 : BitVec 32 := Scalar.remsi arg0 43#32
  let v13 : BitVec 1 := Scalar.cmpi .ne v12 0#32
  let v14 : BitVec 1 := Scalar.andi v11 v13
  let v15 : BitVec 32 := Scalar.subi v0 1#32
  Scalar.select v14 v15 v0

theorem layerWord_eq : ∀ i : grid0.Coords, layerWord i = BitVec.ofNat 32 (layer i) := by decide +kernel
theorem cond_eq : ∀ i : grid0.Coords, k0_cond1 i = 1#1 ↔ chunk i = 0 := by decide +kernel
theorem off1_eq : ∀ i : grid0.Coords, k0_off1 i = ![layer i, 0] := by decide +kernel
theorem off2_eq : ∀ i : grid0.Coords, k0_off2 i = ![0, 128 * chunk i] := by decide +kernel
theorem off3_eq : ∀ i : grid0.Coords, k0_off3 i = ![layer i] := by decide +kernel

/-- The row table of the second moment's scale. -/
def rowTable (i : grid0.Coords) (X : FVec F S3x128 .f32) : S128x128.Idx → F .f32 :=
  k0_pay754 X (k0_pay753 i X) (Scalar.cmpi .eq (layerWord i) 2#32)

/-- The row table of the new scale's reciprocal. -/
def rowTableNew (i : grid0.Coords) (X : FVec F S3x128 .f32) : S128x128.Idx → F .f32 := k0_pay755 (layerWord i) X

/-- What the inner loop reads at grid point `i`, from the three settings, the blocks of the gradient, the weights and the
    codes, and the four tables. -/
def pointLoads (i : grid0.Coords) (st : S3.Idx → BitVec 32) (lr wd : S3.Idx → F .f32) (g w : S128x4096.Idx → F .bf16)
    (mc : S128x2048.Idx → BitVec 8) (sc : S128x32.Idx → F .f32) (vc : S128x2048.Idx → BitVec 8) (vr : S3x5504.Idx → F .f32)
    (vl : S3x4096.Idx → F .f32) (vrn : S3x5504.Idx → F .f32) (vln : S3x4096.Idx → F .f32) : Loads F where
  g := g
  w := w
  mc := mc
  vc := vc
  rn := rowTable i (cut 3 128 vr 0 (128 * chunk i))
  rr := rowTableNew i (cut 3 128 vrn 0 (128 * chunk i))
  cn := k0_pay751 (cut 1 4096 vl (layer i) 0)
  cr := k0_pay752 (cut 1 4096 vln (layer i) 0)
  ms := k0_pay756 sc
  e := k0_pay761 (st (ix1 (Fin.ofNat 3 (layer i))))
  k := k0_pay762 (st (ix1 (Fin.ofNat 3 (layer i))))
  lr := lr (ix1 (Fin.ofNat 3 (layer i)))
  dec := k0_pay763 (lr (ix1 (Fin.ofNat 3 (layer i)))) (wd (ix1 (Fin.ofNat 3 (layer i))))

theorem Loads.ext' {A B : Loads F} (h1 : A.g = B.g) (h2 : A.w = B.w) (h3 : A.mc = B.mc) (h4 : A.vc = B.vc) (h5 : A.rn = B.rn)
    (h6 : A.rr = B.rr) (h7 : A.cn = B.cn) (h8 : A.cr = B.cr) (h9 : A.ms = B.ms) (h10 : A.e = B.e) (h11 : A.k = B.k)
    (h12 : A.lr = B.lr) (h13 : A.dec = B.dec) : A = B := by
  cases A; cases B; simp_all

/-- A store of the whole array read back. -/
theorem read_whole {κ : Kind} {sp : Space} {e : EltTy} {R C : ℕ} (v : View sig κ sp (⟨2, ![R, C]⟩ : Shape) e)
    (f : v.ty.Contents (Elt F)) (inb : ∀ a : Fin 2, (![0, 0] : Fin 2 → ℕ) a + (⟨2, ![R, C]⟩ : Shape).size a ≤ (⟨2, ![R, C]⟩ : Shape).size a)
    (w : (⟨2, ![R, C]⟩ : Shape).Idx → Elt F e) :
    v.read (Elt F) (v.writes (Elt F) f [⟨Rect.unit ![0, 0] (⟨2, ![R, C]⟩ : Shape).size inb, w⟩]) = w := by
  have he : ∀ z, (Rect.unit (s := (⟨2, ![R, C]⟩ : Shape)) ![0, 0] (⟨2, ![R, C]⟩ : Shape).size inb).emb z = z := by
    intro z
    funext a
    match a with
    | ⟨0, _⟩ => exact Fin.ext (by show 0 + 1 * (z 0).val = (z 0).val; omega)
    | ⟨1, _⟩ => exact Fin.ext (by show 0 + 1 * (z 1).val = (z 1).val; omega)
  funext y
  refine View.read_writes_apply_of_pieces v f w _ ?_ y ⟨_, List.mem_singleton_self _, ?_⟩
  · intro p hp x
    obtain rfl := List.mem_singleton.mp hp
    exact congrArg w (he x).symm
  · rw [← Rect.map_emb_univ, Finset.mem_map]
    exact ⟨y, Finset.mem_univ _, he y⟩

/-- A load of the whole array. -/
theorem readAt_whole {κ : Kind} {sp : Space} {e : EltTy} {R C : ℕ} (v : View sig κ sp (⟨2, ![R, C]⟩ : Shape) e)
    (f : v.ty.Contents (Elt F)) (inb : ∀ a : Fin 2, (![0, 0] : Fin 2 → ℕ) a + (⟨2, ![R, C]⟩ : Shape).size a ≤ (⟨2, ![R, C]⟩ : Shape).size a) :
    v.readAt (Elt F) (Rect.unit ![0, 0] (⟨2, ![R, C]⟩ : Shape).size inb).toLoadRect f = v.read (Elt F) f := by
  funext z
  show v.read (Elt F) f _ = v.read (Elt F) f _
  congr 1
  funext a
  match a with
  | ⟨0, _⟩ => exact Fin.ext (by show 0 + 1 * (z 0).val = (z 0).val; omega)
  | ⟨1, _⟩ => exact Fin.ext (by show 0 + 1 * (z 1).val = (z 1).val; omega)

/-- A load of one word. -/
theorem readAt_one {κ : Kind} {sp : Space} {e : EltTy} {R : ℕ} [NeZero R] (v : View sig κ sp (⟨1, ![R]⟩ : Shape) e)
    (f : v.ty.Contents (Elt F)) (off : Fin 1 → ℕ) (o : ℕ) (h : off = ![o])
    (inb : ∀ a : Fin 1, off a + (![1] : Fin 1 → ℕ) a ≤ (⟨1, ![R]⟩ : Shape).size a)
    (x : (⟨1, ![1]⟩ : Shape).Idx) :
    v.readAt (Elt F) (Rect.unit (s := (⟨1, ![R]⟩ : Shape)) off ![1] inb).toLoadRect f x = v.read (Elt F) f (ix1 (Fin.ofNat R o)) := by
  subst h
  show v.read (Elt F) f _ = v.read (Elt F) f _
  congr 1
  funext a
  have h0 := inb 0
  match a with
  | ⟨0, _⟩ =>
    refine Fin.ext ?_
    show o + 1 * (x 0).val = o % R
    have : (x 0).val < 1 := (x 0).isLt
    have h0' : o + 1 ≤ R := h0
    rw [Nat.mod_eq_of_lt (by omega)]; omega

end Cert.MainIdeal.Hand

end
-- ==== Proof.BodyIdeal.lean ====
/-
  The body of the main kernel at one grid point, run once at symbolic memrefs: every load and store is in range, both
  inner loops return, the twelve inputs keep their contents, and
  the result blocks named here hold the blocks of what the point's inputs give.
-/
module

public import proofs.«01_k».proof.Proof.Gen.MainIdeal.Launch
public import proofs.«01_k».proof.Proof.Gen.MainIdeal.Points
public import proofs.«01_k».proof.Proof.Gen.MainIdeal.Frame
public import proofs.«01_k».proof.Proof.UnitLoopIdeal
public import proofs.«01_k».proof.Proof.Inputs
public import Idealize.ShloMosaic.Lib.Exec
public import Idealize.ShloMosaic.Lib.Tactic
public import Idealize.ShloMosaic.Lib.Pipeline.FrameBody
public import Idealize.ShloMosaic.Lib.Pipeline.DatRel

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F] [Named F]

local notation "𝕄" => MT nD τ sig Unit (Elt F) ℕ (UR sig nD τ) ℕ

/-- Memref `M`'s buffer on core `c`: its contents type, and it held at `f` over the memref's elements. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem body_run (c : Dev nD) (i : grid0.Coords)
    (arg1 : Memref sig .tc .smem S3 .i32) (harg1 : arg1.IsWhole) (arg2 : Memref sig .tc .smem S3 .f32) (harg2 : arg2.IsWhole)
    (arg3 : Memref sig .tc .smem S3 .f32) (harg3 : arg3.IsWhole) (arg4 : Memref sig .tc .vmem S128x4096 .bf16) (harg4 : arg4.IsWhole)
    (arg5 : Memref sig .tc .vmem S128x4096 .bf16) (harg5 : arg5.IsWhole) (arg6 : Memref sig .tc .vmem S128x2048 .i8) (harg6 : arg6.IsWhole)
    (arg7 : Memref sig .tc .vmem S128x32 .f32) (harg7 : arg7.IsWhole) (arg8 : Memref sig .tc .vmem S128x2048 .i8) (harg8 : arg8.IsWhole)
    (arg9 : Memref sig .tc .vmem S3x5504 .f32) (harg9 : arg9.IsWhole) (arg10 : Memref sig .tc .vmem S3x4096 .f32) (harg10 : arg10.IsWhole)
    (arg11 : Memref sig .tc .vmem S3x5504 .f32) (harg11 : arg11.IsWhole) (arg12 : Memref sig .tc .vmem S3x4096 .f32) (harg12 : arg12.IsWhole)
    (arg13 : Memref sig .tc .vmem S128x4096 .bf16) (harg13 : arg13.IsWhole) (arg14 : Memref sig .tc .vmem S128x4096 .bf16) (harg14 : arg14.IsWhole)
    (arg15 : Memref sig .tc .vmem S128x2048 .i8) (harg15 : arg15.IsWhole) (arg16 : Memref sig .tc .vmem S128x32 .f32) (harg16 : arg16.IsWhole)
    (arg17 : Memref sig .tc .vmem S128x2048 .i8) (harg17 : arg17.IsWhole) (arg18 : Memref sig .tc .vmem S128x4096 .fp8e4m3) (harg18 : arg18.IsWhole)
    (arg19 : Memref sig .tc .vmem S3x43x32 .f32) (harg19 : arg19.IsWhole) (arg20 : Memref sig .tc .vmem S128x128 .f32) (harg20 : arg20.IsWhole)
    (arg21 : Memref sig .tc .vmem S128x128 .f32) (harg21 : arg21.IsWhole) (arg22 : Memref sig .tc .vmem S8x4096 .f32) (harg22 : arg22.IsWhole)
    (arg23 : Memref sig .tc .vmem S8x4096 .f32) (harg23 : arg23.IsWhole) (arg24 : Memref sig .tc .vmem S128x32 .f32) (harg24 : arg24.IsWhole)
    (arg25 : Memref sig .tc .vmem S128x4096 .f32) (harg25 : arg25.IsWhole) (arg26 : Memref sig .tc .vmem S32x8x128 .f32) (harg26 : arg26.IsWhole)
    (arg27 : Memref sig .tc .vmem S32x128 .f32) (harg27 : arg27.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10)
    (f11 : Bf (F := F) c arg11) (f12 : Bf (F := F) c arg12) (f13 : Bf (F := F) c arg13) (f14 : Bf (F := F) c arg14) (f15 : Bf (F := F) c arg15)
    (f16 : Bf (F := F) c arg16) (f17 : Bf (F := F) c arg17) (f18 : Bf (F := F) c arg18) (f19 : Bf (F := F) c arg19) (f20 : Bf (F := F) c arg20)
    (f21 : Bf (F := F) c arg21) (f22 : Bf (F := F) c arg22) (f23 : Bf (F := F) c arg23) (f24 : Bf (F := F) c arg24) (f25 : Bf (F := F) c arg25)
    (f26 : Bf (F := F) c arg26) (f27 : Bf (F := F) c arg27) (L : Loads F)
    (hL : L = pointLoads i (arg1.view.read (Elt F) f1) (arg2.view.read (Elt F) f2) (arg3.view.read (Elt F) f3) (arg4.view.read (Elt F) f4)
      (arg5.view.read (Elt F) f5) (arg6.view.read (Elt F) f6) (arg7.view.read (Elt F) f7) (arg8.view.read (Elt F) f8)
      (arg9.view.read (Elt F) f9) (arg10.view.read (Elt F) f10) (arg11.view.read (Elt F) f11) (arg12.view.read (Elt F) f12))
    (hcn : ¬ k0_cond1 i = 1#1 → arg22.view.read (Elt F) f22 = L.cn) (hcr : ¬ k0_cond1 i = 1#1 → arg23.view.read (Elt F) f23 = L.cr) :
    iprop(pt c arg1 f1 ∗ pt c arg2 f2 ∗ pt c arg3 f3 ∗ pt c arg4 f4 ∗ pt c arg5 f5 ∗ pt c arg6 f6 ∗ pt c arg7 f7
       ∗ pt c arg8 f8 ∗ pt c arg9 f9 ∗ pt c arg10 f10 ∗ pt c arg11 f11 ∗ pt c arg12 f12 ∗ pt c arg13 f13
       ∗ pt c arg14 f14 ∗ pt c arg15 f15 ∗ pt c arg16 f16 ∗ pt c arg17 f17 ∗ pt c arg18 f18 ∗ pt c arg19 f19
       ∗ pt c arg20 f20 ∗ pt c arg21 f21 ∗ pt c arg22 f22 ∗ pt c arg23 f23 ∗ pt c arg24 f24 ∗ pt c arg25 f25
       ∗ pt c arg26 f26 ∗ pt c arg27 f27)
    ⊢ wp frame (wpE (defs₀ (F := F)) Variants.none (c : Thread nD τ) none) Set.univ
        (cc0_adamw i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18
        arg19 harg19 arg20 harg20 arg21 harg21 arg22 harg22 arg23 harg23 arg24 harg24 arg25 harg25 arg26 harg26 arg27 harg27)
        (fun _ => iprop(pt c arg1 f1 ∗ pt c arg2 f2 ∗ pt c arg3 f3 ∗ pt c arg4 f4 ∗ pt c arg5 f5 ∗ pt c arg6 f6 ∗ pt c arg7 f7
       ∗ pt c arg8 f8 ∗ pt c arg9 f9 ∗ pt c arg10 f10 ∗ pt c arg11 f11 ∗ pt c arg12 f12 ∗ (∃ f, pt c arg13 f
       ∗ ⌜arg13.view.read (Elt F) f = outP L⌝) ∗ (∃ f, pt c arg14 f ∗ ⌜arg14.view.read (Elt F) f = outU L⌝)
       ∗ (∃ f, pt c arg15 f ∗ ⌜arg15.view.read (Elt F) f = outM L⌝) ∗ (∃ f, pt c arg16 f
       ∗ ⌜arg16.view.read (Elt F) f = outS L⌝) ∗ (∃ f, pt c arg17 f) ∗ (∃ f, pt c arg18 f) ∗ (∃ f, pt c arg19 f)
       ∗ (∃ f, pt c arg20 f) ∗ (∃ f, pt c arg21 f) ∗ (∃ f, pt c arg22 f ∗ ⌜arg22.view.read (Elt F) f = L.cn⌝)
       ∗ (∃ f, pt c arg23 f ∗ ⌜arg23.view.read (Elt F) f = L.cr⌝) ∗ (∃ f, pt c arg24 f) ∗ (∃ f, pt c arg25 f)
       ∗ (∃ f, pt c arg26 f) ∗ (∃ f, pt c arg27 f))) := by
  by_cases hc : k0_cond1 i = 1#1
  · iintro ⟨H1, H2, H3, H4, H5, H6, H7, H8, H9, H10, H11, H12, H13, H14, H15, H16, H17, H18, H19, H20, H21, H22, H23, H24, H25, H26, H27⟩
    rw [cc0_adamw_eq_skeleton]; unfold cc0_adamw_skel
    sl_exec
    sl_step
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; isplitl [H13]; · iexact H13
      ipureintro
      refine loop_weights (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          ((read_whole arg22.view _ _ _).trans (congrArg k0_pay751 (readAt_cut arg10.view f10 _ _ _ (off1_eq i) _)))
          ((read_whole arg23.view _ _ _).trans (congrArg k0_pay752 (readAt_cut arg12.view f12 _ _ _ (off1_eq i) _)))
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H14]
    · iexists _; isplitl [H14]; · iexact H14
      ipureintro
      refine loop_update (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          ((read_whole arg22.view _ _ _).trans (congrArg k0_pay751 (readAt_cut arg10.view f10 _ _ _ (off1_eq i) _)))
          ((read_whole arg23.view _ _ _).trans (congrArg k0_pay752 (readAt_cut arg12.view f12 _ _ _ (off1_eq i) _)))
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H15]
    · iexists _; isplitl [H15]; · iexact H15
      ipureintro
      refine loop_mcodes (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          ((read_whole arg22.view _ _ _).trans (congrArg k0_pay751 (readAt_cut arg10.view f10 _ _ _ (off1_eq i) _)))
          ((read_whole arg23.view _ _ _).trans (congrArg k0_pay752 (readAt_cut arg12.view f12 _ _ _ (off1_eq i) _)))
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H16]
    · iexists _; isplitl [H16]; · iexact H16
      ipureintro
      refine loop_scale (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          ((read_whole arg22.view _ _ _).trans (congrArg k0_pay751 (readAt_cut arg10.view f10 _ _ _ (off1_eq i) _)))
          ((read_whole arg23.view _ _ _).trans (congrArg k0_pay752 (readAt_cut arg12.view f12 _ _ _ (off1_eq i) _)))
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexists _; isplitl [H22]; · iexact H22
      ipureintro; subst hL; exact (read_whole arg22.view _ _ _).trans (congrArg k0_pay751 (readAt_cut arg10.view f10 _ _ _ (off1_eq i) _))
    isplitl [H23]
    · iexists _; isplitl [H23]; · iexact H23
      ipureintro; subst hL; exact (read_whole arg23.view _ _ _).trans (congrArg k0_pay752 (readAt_cut arg12.view f12 _ _ _ (off1_eq i) _))
    isplitl [H24]
    · iexists _; iexact H24
    isplitl [H25]
    · iexists _; iexact H25
    isplitl [H26]
    · iexists _; iexact H26
    iexists _; iexact H27
  · iintro ⟨H1, H2, H3, H4, H5, H6, H7, H8, H9, H10, H11, H12, H13, H14, H15, H16, H17, H18, H19, H20, H21, H22, H23, H24, H25, H26, H27⟩
    rw [cc0_adamw_eq_skeleton]; unfold cc0_adamw_skel
    sl_exec
    sl_step
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; isplitl [H13]; · iexact H13
      ipureintro
      refine loop_weights (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          (hcn hc)
          (hcr hc)
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H14]
    · iexists _; isplitl [H14]; · iexact H14
      ipureintro
      refine loop_update (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          (hcn hc)
          (hcr hc)
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H15]
    · iexists _; isplitl [H15]; · iexact H15
      ipureintro
      refine loop_mcodes (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          (hcn hc)
          (hcr hc)
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H16]
    · iexists _; isplitl [H16]; · iexact H16
      ipureintro
      refine loop_scale (hL := ?_) ..
      exact by
        subst hL
        exact Loads.ext' rfl rfl rfl rfl
          ((read_whole arg20.view _ _ _).trans (congrArg (rowTable i) (readAt_cut arg9.view f9 _ _ _ (off2_eq i) _)))
          ((read_whole arg21.view _ _ _).trans (congrArg (rowTableNew i) (readAt_cut arg11.view f11 _ _ _ (off2_eq i) _)))
          (hcn hc)
          (hcr hc)
          ((read_whole arg24.view _ _ _).trans (congrArg k0_pay756 (readAt_whole arg7.view f7 _)))
          (congrArg k0_pay761 (readAt_one arg1.view f1 _ _ (off3_eq i) _ _))
          (congrArg k0_pay762 (readAt_one arg1.view f1 _ _ (off3_eq i) _ _))
          (readAt_one arg2.view f2 _ _ (off3_eq i) _ _)
          (congrArg₂ k0_pay763 (readAt_one arg2.view f2 _ _ (off3_eq i) _ _) (readAt_one arg3.view f3 _ _ (off3_eq i) _ _))
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexists _; isplitl [H22]; · iexact H22
      ipureintro; exact hcn hc
    isplitl [H23]
    · iexists _; isplitl [H23]; · iexact H23
      ipureintro; exact hcr hc
    isplitl [H24]
    · iexists _; iexact H24
    isplitl [H25]
    · iexists _; iexact H25
    isplitl [H26]
    · iexists _; iexact H26
    iexists _; iexact H27

/-- The same over `owns`. -/
theorem body_own (c : Dev nD) (i : grid0.Coords)
    (arg1 : Memref sig .tc .smem S3 .i32) (harg1 : arg1.IsWhole) (arg2 : Memref sig .tc .smem S3 .f32) (harg2 : arg2.IsWhole)
    (arg3 : Memref sig .tc .smem S3 .f32) (harg3 : arg3.IsWhole) (arg4 : Memref sig .tc .vmem S128x4096 .bf16) (harg4 : arg4.IsWhole)
    (arg5 : Memref sig .tc .vmem S128x4096 .bf16) (harg5 : arg5.IsWhole) (arg6 : Memref sig .tc .vmem S128x2048 .i8) (harg6 : arg6.IsWhole)
    (arg7 : Memref sig .tc .vmem S128x32 .f32) (harg7 : arg7.IsWhole) (arg8 : Memref sig .tc .vmem S128x2048 .i8) (harg8 : arg8.IsWhole)
    (arg9 : Memref sig .tc .vmem S3x5504 .f32) (harg9 : arg9.IsWhole) (arg10 : Memref sig .tc .vmem S3x4096 .f32) (harg10 : arg10.IsWhole)
    (arg11 : Memref sig .tc .vmem S3x5504 .f32) (harg11 : arg11.IsWhole) (arg12 : Memref sig .tc .vmem S3x4096 .f32) (harg12 : arg12.IsWhole)
    (arg13 : Memref sig .tc .vmem S128x4096 .bf16) (harg13 : arg13.IsWhole) (arg14 : Memref sig .tc .vmem S128x4096 .bf16) (harg14 : arg14.IsWhole)
    (arg15 : Memref sig .tc .vmem S128x2048 .i8) (harg15 : arg15.IsWhole) (arg16 : Memref sig .tc .vmem S128x32 .f32) (harg16 : arg16.IsWhole)
    (arg17 : Memref sig .tc .vmem S128x2048 .i8) (harg17 : arg17.IsWhole) (arg18 : Memref sig .tc .vmem S128x4096 .fp8e4m3) (harg18 : arg18.IsWhole)
    (arg19 : Memref sig .tc .vmem S3x43x32 .f32) (harg19 : arg19.IsWhole) (arg20 : Memref sig .tc .vmem S128x128 .f32) (harg20 : arg20.IsWhole)
    (arg21 : Memref sig .tc .vmem S128x128 .f32) (harg21 : arg21.IsWhole) (arg22 : Memref sig .tc .vmem S8x4096 .f32) (harg22 : arg22.IsWhole)
    (arg23 : Memref sig .tc .vmem S8x4096 .f32) (harg23 : arg23.IsWhole) (arg24 : Memref sig .tc .vmem S128x32 .f32) (harg24 : arg24.IsWhole)
    (arg25 : Memref sig .tc .vmem S128x4096 .f32) (harg25 : arg25.IsWhole) (arg26 : Memref sig .tc .vmem S32x8x128 .f32) (harg26 : arg26.IsWhole)
    (arg27 : Memref sig .tc .vmem S32x128 .f32) (harg27 : arg27.IsWhole)
    (X1 : S3.Idx → Elt F .i32)
    (X2 : S3.Idx → Elt F .f32)
    (X3 : S3.Idx → Elt F .f32)
    (X4 : S128x4096.Idx → Elt F .bf16)
    (X5 : S128x4096.Idx → Elt F .bf16)
    (X6 : S128x2048.Idx → Elt F .i8)
    (X7 : S128x32.Idx → Elt F .f32)
    (X8 : S128x2048.Idx → Elt F .i8)
    (X9 : S3x5504.Idx → Elt F .f32)
    (X10 : S3x4096.Idx → Elt F .f32)
    (X11 : S3x5504.Idx → Elt F .f32)
    (X12 : S3x4096.Idx → Elt F .f32)
    (X13 : S128x4096.Idx → Elt F .bf16)
    (X14 : S128x4096.Idx → Elt F .bf16)
    (X15 : S128x2048.Idx → Elt F .i8)
    (X16 : S128x32.Idx → Elt F .f32)
    (X17 : S128x2048.Idx → Elt F .i8)
    (X18 : S128x4096.Idx → Elt F .fp8e4m3)
    (X19 : S3x43x32.Idx → Elt F .f32)
    (X20 : S128x128.Idx → Elt F .f32)
    (X21 : S128x128.Idx → Elt F .f32)
    (X22 : S8x4096.Idx → Elt F .f32)
    (X23 : S8x4096.Idx → Elt F .f32)
    (X24 : S128x32.Idx → Elt F .f32)
    (X25 : S128x4096.Idx → Elt F .f32)
    (X26 : S32x8x128.Idx → Elt F .f32)
    (X27 : S32x128.Idx → Elt F .f32) (L : Loads F)
    (hL : L = pointLoads i X1 X2 X3 X4 X5 X6 X7 X8 X9 X10 X11 X12)
    (hcn : ¬ k0_cond1 i = 1#1 → X22 = L.cn) (hcr : ¬ k0_cond1 i = 1#1 → X23 = L.cr) :
    (iprop(owns (c : Thread nD τ) arg1 fullShare X1 ∗ owns (c : Thread nD τ) arg2 fullShare X2
       ∗ owns (c : Thread nD τ) arg3 fullShare X3 ∗ owns (c : Thread nD τ) arg4 fullShare X4
       ∗ owns (c : Thread nD τ) arg5 fullShare X5 ∗ owns (c : Thread nD τ) arg6 fullShare X6
       ∗ owns (c : Thread nD τ) arg7 fullShare X7 ∗ owns (c : Thread nD τ) arg8 fullShare X8
       ∗ owns (c : Thread nD τ) arg9 fullShare X9 ∗ owns (c : Thread nD τ) arg10 fullShare X10
       ∗ owns (c : Thread nD τ) arg11 fullShare X11 ∗ owns (c : Thread nD τ) arg12 fullShare X12
       ∗ owns (c : Thread nD τ) arg13 fullShare X13 ∗ owns (c : Thread nD τ) arg14 fullShare X14
       ∗ owns (c : Thread nD τ) arg15 fullShare X15 ∗ owns (c : Thread nD τ) arg16 fullShare X16
       ∗ owns (c : Thread nD τ) arg17 fullShare X17 ∗ owns (c : Thread nD τ) arg18 fullShare X18
       ∗ owns (c : Thread nD τ) arg19 fullShare X19 ∗ owns (c : Thread nD τ) arg20 fullShare X20
       ∗ owns (c : Thread nD τ) arg21 fullShare X21 ∗ owns (c : Thread nD τ) arg22 fullShare X22
       ∗ owns (c : Thread nD τ) arg23 fullShare X23 ∗ owns (c : Thread nD τ) arg24 fullShare X24
       ∗ owns (c : Thread nD τ) arg25 fullShare X25 ∗ owns (c : Thread nD τ) arg26 fullShare X26
       ∗ owns (c : Thread nD τ) arg27 fullShare X27) : sProp 𝕄)
    ⊢ wp frame (wpE (defs₀ (F := F)) Variants.none (c : Thread nD τ) none) Set.univ
        (cc0_adamw i arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18
        arg19 harg19 arg20 harg20 arg21 harg21 arg22 harg22 arg23 harg23 arg24 harg24 arg25 harg25 arg26 harg26 arg27 harg27)
        (fun _ => iprop(owns (c : Thread nD τ) arg1 fullShare X1 ∗ owns (c : Thread nD τ) arg2 fullShare X2
       ∗ owns (c : Thread nD τ) arg3 fullShare X3 ∗ owns (c : Thread nD τ) arg4 fullShare X4
       ∗ owns (c : Thread nD τ) arg5 fullShare X5 ∗ owns (c : Thread nD τ) arg6 fullShare X6
       ∗ owns (c : Thread nD τ) arg7 fullShare X7 ∗ owns (c : Thread nD τ) arg8 fullShare X8
       ∗ owns (c : Thread nD τ) arg9 fullShare X9 ∗ owns (c : Thread nD τ) arg10 fullShare X10
       ∗ owns (c : Thread nD τ) arg11 fullShare X11 ∗ owns (c : Thread nD τ) arg12 fullShare X12
       ∗ owns (c : Thread nD τ) arg13 fullShare (outP L) ∗ owns (c : Thread nD τ) arg14 fullShare (outU L)
       ∗ owns (c : Thread nD τ) arg15 fullShare (outM L) ∗ owns (c : Thread nD τ) arg16 fullShare (outS L)
       ∗ (∃ Y, owns (c : Thread nD τ) arg17 fullShare Y) ∗ (∃ Y, owns (c : Thread nD τ) arg18 fullShare Y)
       ∗ (∃ Y, owns (c : Thread nD τ) arg19 fullShare Y) ∗ (∃ Y, owns (c : Thread nD τ) arg20 fullShare Y)
       ∗ (∃ Y, owns (c : Thread nD τ) arg21 fullShare Y) ∗ owns (c : Thread nD τ) arg22 fullShare (L.cn)
       ∗ owns (c : Thread nD τ) arg23 fullShare (L.cr) ∗ (∃ Y, owns (c : Thread nD τ) arg24 fullShare Y)
       ∗ (∃ Y, owns (c : Thread nD τ) arg25 fullShare Y) ∗ (∃ Y, owns (c : Thread nD τ) arg26 fullShare Y)
       ∗ (∃ Y, owns (c : Thread nD τ) arg27 fullShare Y))) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, ⟨%f26, %e26, H26⟩, ⟨%f27, %e27, H27⟩⟩
  iapply (wp_wand_r Idealize.ShloMosaic.frame (wpE (defs₀ (F := F)) Variants.none (c : Thread nD τ) none) Set.univ)
  isplitl [H1 H2 H3 H4 H5 H6 H7 H8 H9 H10 H11 H12 H13 H14 H15 H16 H17 H18 H19 H20 H21 H22 H23 H24 H25 H26 H27]
  · iapply (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f1 f2 f3 f4 f5 f6 f7 f8 f9 f10 f11 f12 f13 f14 f15 f16 f17 f18 f19 f20 f21 f22 f23 f24 f25 f26 f27 L
      (by rw [e1, e2, e3, e4, e5, e6, e7, e8, e9, e10, e11, e12]; exact hL) (fun h => e22.trans (hcn h)) (fun h => e23.trans (hcr h)))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  iintro %_ ⟨H1, H2, H3, H4, H5, H6, H7, H8, H9, H10, H11, H12, ⟨%g13, H13, %q13⟩, ⟨%g14, H14, %q14⟩, ⟨%g15, H15, %q15⟩, ⟨%g16, H16, %q16⟩, ⟨%g17, H17⟩, ⟨%g18, H18⟩, ⟨%g19, H19⟩, ⟨%g20, H20⟩, ⟨%g21, H21⟩, ⟨%g22, H22, %q22⟩, ⟨%g23, H23, %q23⟩, ⟨%g24, H24⟩, ⟨%g25, H25⟩, ⟨%g26, H26⟩, ⟨%g27, H27⟩⟩
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists g13; isplitr; · ipureintro; exact q13
    iexact H13
  isplitl [H14]
  · iexists g14; isplitr; · ipureintro; exact q14
    iexact H14
  isplitl [H15]
  · iexists g15; isplitr; · ipureintro; exact q15
    iexact H15
  isplitl [H16]
  · iexists g16; isplitr; · ipureintro; exact q16
    iexact H16
  isplitl [H17]
  · iexists _, g17; isplitr; · ipureintro; rfl
    iexact H17
  isplitl [H18]
  · iexists _, g18; isplitr; · ipureintro; rfl
    iexact H18
  isplitl [H19]
  · iexists _, g19; isplitr; · ipureintro; rfl
    iexact H19
  isplitl [H20]
  · iexists _, g20; isplitr; · ipureintro; rfl
    iexact H20
  isplitl [H21]
  · iexists _, g21; isplitr; · ipureintro; rfl
    iexact H21
  isplitl [H22]
  · iexists g22; isplitr; · ipureintro; exact q22
    iexact H22
  isplitl [H23]
  · iexists g23; isplitr; · ipureintro; exact q23
    iexact H23
  isplitl [H24]
  · iexists _, g24; isplitr; · ipureintro; rfl
    iexact H24
  isplitl [H25]
  · iexists _, g25; isplitr; · ipureintro; rfl
    iexact H25
  isplitl [H26]
  · iexists _, g26; isplitr; · ipureintro; rfl
    iexact H26
  iexists _, g27; isplitr; · ipureintro; rfl
  iexact H27

end Cert.MainIdeal.Hand

end
-- ==== Proof.RegionIdeal.lean ====
/-
  The frame of the main kernel: the launch runs the pipeline over the 129 grid points, the twelve inputs end as they
  began, the results proved here hold at every grid point the blocks the inner loop leaves, and every semaphore counter ends at zero.
-/
module

public import proofs.«01_k».proof.Proof.BodyIdeal
public import Idealize.ShloMosaic.Lib.Pipeline.Kit

@[expose] public section

set_option maxRecDepth 16384
set_option maxHeartbeats 4000000

noncomputable section

namespace Cert.MainIdeal.Hand

open Cert.MainIdeal Cert.MainIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows of the results of which nothing is said here. -/
def fgt : Fin 19 → Bool := fun w => decide (w.val = 16) || decide (w.val = 17) || decide (w.val = 18)

/-- What the inner loop reads at grid point `t`. -/
def point (c : Dev nD) (t : Fin cfg0.N) : Loads F :=
  pointLoads (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)

/-- Between the points: the two column tables are those of the point just done, the other scratch at some contents. -/
def phi (c : Dev nD) (k : ℕ) : sProp 𝕄 :=
  iprop(iprop((∃ d, owns (c : Thread nD τ) (Memref.whole cc0_scratch0) fullShare d) ∗ (∃ d, owns (c : Thread nD τ) (Memref.whole cc0_scratch1) fullShare d) ∗ (∃ d, ⌜∀ t : Fin cfg0.N, k = t.val + 1 → d = (point m c t).cn⌝ ∗ owns (c : Thread nD τ) (Memref.whole cc0_scratch2) fullShare d) ∗ (∃ d, ⌜∀ t : Fin cfg0.N, k = t.val + 1 → d = (point m c t).cr⌝ ∗ owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d))
          ∗ ∃ r, prngReg c r)

theorem coord_val : ∀ t : Fin cfg0.N, ((grid0.coords t) 0).val = t.val := by decide +kernel

theorem cols_const (c : Dev nD) (t t' : Fin cfg0.N) : iblk m c 9 t = iblk m c 9 t' := rfl
theorem cols_new_const (c : Dev nD) (t t' : Fin cfg0.N) : iblk m c 11 t = iblk m c 11 t' := rfl

/-- Inside a layer the column tables of a point are those of the point before. -/
theorem tables_step (c : Dev nD) (t : Fin cfg0.N) (h : ¬ k0_cond1 (grid0.coords t) = 1#1) :
    ∃ t' : Fin cfg0.N, t.val = t'.val + 1 ∧ (point m c t').cn = (point m c t).cn ∧ (point m c t').cr = (point m c t).cr := by
  have hc : t.val % 43 ≠ 0 := by
    have := fun h' => h ((cond_eq (grid0.coords t)).2 h')
    unfold chunk at this
    rwa [coord_val] at this
  have ht := t.isLt
  refine ⟨⟨t.val - 1, by omega⟩, by show t.val = t.val - 1 + 1; omega, ?_, ?_⟩
  all_goals
    have hl : layer (grid0.coords (⟨t.val - 1, by omega⟩ : Fin cfg0.N)) = layer (grid0.coords t) := by
      unfold layer; rw [coord_val, coord_val]; show (t.val - 1) / 43 = t.val / 43; omega
    unfold point pointLoads
    dsimp only
    rw [hl]
  · rw [cols_const m c _ t]
  · rw [cols_new_const m c _ t]

/-- The proof data on core `c`: each array as the region finds it, each input's block left as found, the results' unnamed, the scratch
    at some contents between the points. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => iblk m c 11 t
    | 12 => outP (point m c t)
    | 13 => outU (point m c t)
    | 14 => outM (point m c t)
    | 15 => outS (point m c t)
    | 16 => Pipeline.Dat.unnamed (cfg := cfg0) 16 t
    | 17 => Pipeline.Dat.unnamed (cfg := cfg0) 17 t
    | 18 => Pipeline.Dat.unnamed (cfg := cfg0) 18 t
    | ⟨_ + 19, h⟩ => absurd h (Nat.not_lt.2 (Nat.le_add_left _ _))
  Φ k := phi m c k.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = iblk m c 11 t := rfl
theorem after_12 (c : Dev nD) (t : Fin cfg0.N) : (dats m 0 c).after 12 t = outP (point m c t) := rfl
theorem after_13 (c : Dev nD) (t : Fin cfg0.N) : (dats m 0 c).after 13 t = outU (point m c t) := rfl
theorem after_15 (c : Dev nD) (t : Fin cfg0.N) : (dats m 0 c).after 15 t = outS (point m c t) := rfl
theorem after_14 (c : Dev nD) (t : Fin cfg0.N) : (dats m 0 c).after 14 t = outM (point m c t) := rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ (∃ X, owns (c : Thread nD τ) (win0_16.stage (cfg0.slots t 16)) fullShare X)
    ∗ (∃ X, owns (c : Thread nD τ) (win0_17.stage (cfg0.slots t 17)) fullShare X)
    ∗ (∃ X, owns (c : Thread nD τ) (win0_18.stage (cfg0.slots t 18)) fullShare X))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d))
          ∗ ∃ r, prngReg c r) := by
  unfold Pipeline.ΦA
  rw [scopedRest0_eq]; simp only [owns_whole]; try rfl

theorem phi_in (c : Dev nD) : (Pipeline.ΦA spec0 c : sProp 𝕄) ⊢ phi m c 0 := by
  rw [PhiA_eq]; unfold phi
  iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hg⟩
  isplitl [S0 S1 S2 S3 S4 S5 S6 S7]
  · skip
    isplitl [S0]; · iexists s0; iexact S0
    isplitl [S1]; · iexists s1; iexact S1
    isplitl [S2]
    · iexists s2; isplitr
      · ipureintro; exact fun t h => absurd h (by omega)
      iexact S2
    isplitl [S3]
    · iexists s3; isplitr
      · ipureintro; exact fun t h => absurd h (by omega)
      iexact S3
    isplitl [S4]; · iexists s4; iexact S4
    isplitl [S5]; · iexists s5; iexact S5
    isplitl [S6]; · iexists s6; iexact S6
    iexists s7; iexact S7
  iexact Hg

theorem phi_out (c : Dev nD) : phi m c cfg0.N ⊢ (Pipeline.ΦA spec0 c : sProp 𝕄) := by
  rw [PhiA_eq]; unfold phi
  iintro ⟨⟨⟨%s0, S0⟩, ⟨%s1, S1⟩, ⟨%s2, %e2, S2⟩, ⟨%s3, %e3, S3⟩, ⟨%s4, S4⟩, ⟨%s5, S5⟩, ⟨%s6, S6⟩, ⟨%s7, S7⟩⟩, Hg⟩
  isplitl [S0 S1 S2 S3 S4 S5 S6 S7]
  · skip
    isplitl [S0]; · iexists s0; iexact S0
    isplitl [S1]; · iexists s1; iexact S1
    isplitl [S2]; · iexists s2; iexact S2
    isplitl [S3]; · iexists s3; iexact S3
    isplitl [S4]; · iexists s4; iexact S4
    isplitl [S5]; · iexists s5; iexact S5
    isplitl [S6]; · iexists s6; iexact S6
    iexists s7; iexact S7
  iexact Hg

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = phi m c (t.val + 1) from rfl,
    show (dats m 0 c).owesAt () t.succ = (dats m 0 c).owesAt () t.castSucc from rfl,
    show (dats m 0 c).Φ t.castSucc = phi m c t.val from rfl]
  unfold phi
  rw [after_0, after_1, after_2, after_3, after_4, after_5, after_6, after_7, after_8, after_9, after_10, after_11, after_12, after_13, after_15, after_14]
  iintro ⟨⟨⟨⟨%s0, S0⟩, ⟨%s1, S1⟩, ⟨%s2, %e2, S2⟩, ⟨%s3, %e3, S3⟩, ⟨%s4, S4⟩, ⟨%s5, S5⟩, ⟨%s6, S6⟩, ⟨%s7, S7⟩⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  rw [show (dats m 0 c).before 0 t d0 = iblk m c 0 t from before0_0_of m (dats m 0 c) (A_eq m c 0) (after_0 m c) t d0]
  rw [show (dats m 0 c).before 1 t d1 = iblk m c 1 t from before0_1_of m (dats m 0 c) (A_eq m c 1) (after_1 m c) t d1]
  rw [show (dats m 0 c).before 2 t d2 = iblk m c 2 t from before0_2_of m (dats m 0 c) (A_eq m c 2) (after_2 m c) t d2]
  rw [show (dats m 0 c).before 3 t d3 = iblk m c 3 t from before0_3_of m (dats m 0 c) (A_eq m c 3) (after_3 m c) t d3]
  rw [show (dats m 0 c).before 4 t d4 = iblk m c 4 t from before0_4_of m (dats m 0 c) (A_eq m c 4) (after_4 m c) t d4]
  rw [show (dats m 0 c).before 5 t d5 = iblk m c 5 t from before0_5_of m (dats m 0 c) (A_eq m c 5) (after_5 m c) t d5]
  rw [show (dats m 0 c).before 6 t d6 = iblk m c 6 t from before0_6_of m (dats m 0 c) (A_eq m c 6) (after_6 m c) t d6]
  rw [show (dats m 0 c).before 7 t d7 = iblk m c 7 t from before0_7_of m (dats m 0 c) (A_eq m c 7) (after_7 m c) t d7]
  rw [show (dats m 0 c).before 8 t d8 = iblk m c 8 t from before0_8_of m (dats m 0 c) (A_eq m c 8) (after_8 m c) t d8]
  rw [show (dats m 0 c).before 9 t d9 = iblk m c 9 t from before0_9_of m (dats m 0 c) (A_eq m c 9) (after_9 m c) t d9]
  rw [show (dats m 0 c).before 10 t d10 = iblk m c 10 t from before0_10_of m (dats m 0 c) (A_eq m c 10) (after_10 m c) t d10]
  rw [show (dats m 0 c).before 11 t d11 = iblk m c 11 t from before0_11_of m (dats m 0 c) (A_eq m c 11) (after_11 m c) t d11]
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 S0 S1 S2 S3 S4 S5 S6 S7]
  · iapply (body_own c (grid0.coords t) (L := point m c t) (hL := rfl)
      (hcn := fun h => by obtain ⟨t', h1, h2, _⟩ := tables_step m c t h; exact (e2 t' h1).trans h2)
      (hcr := fun h => by obtain ⟨t', h1, _, h3⟩ := tables_step m c t h; exact (e3 t' h1).trans h3))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %_ ⟨H0, H1, H2, H3, H4, H5, H6, H7, H8, H9, H10, H11, H12, H13, H14, H15, ⟨%g16, H16⟩, ⟨%g17, H17⟩, ⟨%g18, H18⟩, ⟨%s0, S0⟩, ⟨%s1, S1⟩, S2, S3, ⟨%s4, S4⟩, ⟨%s5, S5⟩, ⟨%s6, S6⟩, ⟨%s7, S7⟩⟩
  isplitl [S0 S1 S2 S3 S4 S5 S6 S7 Hg]
  · isplitl [S0 S1 S2 S3 S4 S5 S6 S7]
    · skip
      isplitl [S0]; · iexists s0; iexact S0
      isplitl [S1]; · iexists s1; iexact S1
      isplitl [S2]
      · iexists _; isplitr; rotate_left
        · iexact S2
        ipureintro; exact fun t' h => by rw [show t' = t from Fin.ext (by omega)]
      isplitl [S3]
      · iexists _; isplitr; rotate_left
        · iexact S3
        ipureintro; exact fun t' h => by rw [show t' = t from Fin.ext (by omega)]
      isplitl [S4]; · iexists s4; iexact S4
      isplitl [S5]; · iexists s5; iexact S5
      isplitl [S6]; · iexists s6; iexact S6
      iexists s7; iexact S7
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists g16; iexact H16
  isplitl [H17]; · iexists g17; iexact H17
  iexists g18; iexact H18

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget fgt) (V m) r ∧ r.2.sem = fun _ => 0) :=
  Pipeline.θ_run_frame_track_forget cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m)
    (hin := phi_in m) (hout := phi_out m) (Q' := _) (hQ' := fun _ h => h)

variable {m ρ}

/-- After the run every argument holds what it held at launch. -/
theorem args_kept {r : PUnit × MemSt nD τ sig (Elt F)}
    (h : Pipeline.RDat.FramePost (cfgs 0) (fun c => (dats (F := F) m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (h.arr_in c 8 rfl).trans ((A_eq m c 8).trans (V_main_arg5 m c)),
    (h.arr_in c 9 rfl).trans ((A_eq m c 9).trans (V_main_arg6 m c)),
    (h.arr_in c 10 rfl).trans ((A_eq m c 10).trans (V_main_arg7 m c)),
    (h.arr_in c 11 rfl).trans ((A_eq m c 11).trans (V_main_arg8 m c)),
    (h.arr_in c 0 rfl).trans ((A_eq m c 0).trans (V_main_arg9 m c)),
    (h.arr_in c 1 rfl).trans ((A_eq m c 1).trans (V_main_arg10 m c)),
    (h.arr_in c 2 rfl).trans ((A_eq m c 2).trans (V_main_arg11 m c))⟩

end Cert.MainIdeal.Hand

end
-- ==== Proof.PointCodes.lean ====
/-
  The codes a block of bytes holds, element by element: which byte and which half of it the lane of a block reads, and
  the numbers the kernel makes of it, as extended reals.
-/
module

public import proofs.«01_k».proof.Proof.Pieces
public import proofs.«01_k».proof.Proof.Bytes

@[expose] public section

set_option maxRecDepth 16384

noncomputable section

namespace Cert.MainIdeal.Hand

open Cert.MainIdeal Cert.MainIdeal.Gen
open Idealize.ShloMosaic Idealize.ShloMosaic.TcCoe
open Idealize.ShloMosaic.ValueIdx

/-- The code in one half of a byte. -/
def nib (hi : Bool) (b : BitVec 8) : BitVec 8 := if hi then b >>> 4 else b &&& 15#8

/-- Sixteen times the signed code in one half of a byte. -/
def nib16 (hi : Bool) (b : BitVec 8) : BitVec 8 := if hi then b &&& 240#8 else b <<< 4

/-- The lane of the byte of lane `l` of a block; `h` tells the second block of a pair. -/
def byteLane (h : Bool) (l : Fin 128) : Fin 128 := ⟨(if h then 64 else 0) + l.val % 64, by split <;> omega⟩

/-- Whether the code of lane `l` is the high half. -/
def isHigh (l : Fin 128) : Bool := decide (64 ≤ l.val)

theorem leftLanes_apply (a : Fin 8) (l : Fin 128) : leftLanes (ix2 a l) = if l.val < 64 then 1#1 else 0#1 := by
  revert a l; decide +kernel

theorem pick {α : Type} (x y : S8x128.Idx → α) (a : Fin 8) (l : Fin 128) :
    select leftLanes x y (ix2 a l) = if l.val < 64 then x (ix2 a l) else y (ix2 a l) := by
  show Scalar.select (leftLanes (ix2 a l)) _ _ = _
  rw [leftLanes_apply]
  unfold Scalar.select
  split <;> simp

theorem shr4 (X : IVec S8x128 32) (j : S8x128.Idx) : shrui X (broadcast S8x128 4#32) j = X j >>> 4 := by
  simp [shrui, IntOp.shrui, broadcast]

theorem shl4 (X : IVec S8x128 32) (j : S8x128.Idx) : shli X (broadcast S8x128 4#32) j = X j <<< 4 := by
  simp [shli, IntOp.shli, broadcast]

theorem words_row (x : IVec S32x128 8) (r : Fin 32) (l : Fin 128) :
    byteOf (wordsOf x (ix2 ⟨r.val / 4, by omega⟩ l)) (r.val % 4) = x (ix2 r l) := by
  unfold wordsOf
  rw [show shapeCast S32x128 x shapeCasts_S32x128_S32x128 = x from funext fun j => shapeCast_apply x _ j j rfl]
  exact byteOf_words_row x _ r l

theorem turn_words_row (x : IVec S32x128 8) (r : Fin 32) (l : Fin 128) :
    byteOf (turn (wordsOf x) (ix2 ⟨r.val / 4, by omega⟩ l)) (r.val % 4) = x (ix2 r ⟨(l.val + 64) % 128, by omega⟩) := by
  unfold turn
  rw [turn_apply]
  exact words_row x r _

theorem vCode_apply (h : Bool) (x : IVec S32x128 8) (r : Fin 32) (l : Fin 128) :
    bitcast S32x128 8 (addi (andi
      (match h with
        | false => select leftLanes (wordsOf x) (shrui (turn (wordsOf x)) (broadcast S8x128 4#32))
        | true => select leftLanes (turn (wordsOf x)) (shrui (wordsOf x) (broadcast S8x128 4#32)))
      (broadcast S8x128 252645135#32)) (broadcast S8x128 16843009#32)) bitcasts_S8x128_w32_S32x128_w8 (ix2 r l)
      = nib (isHigh l) (x (ix2 r (byteLane h l))) + 1#8 := by
  rw [bytes_apply]
  have hr : r.val % 4 < 4 := by omega
  cases h
  all_goals
    show byteOf (((select leftLanes _ _ (ix2 _ l)) &&& 252645135#32) + 16843009#32) _ = _
    rw [pick]
    by_cases hl : l.val < 64
    · have e : isHigh l = false := by simp [isHigh]; omega
      rw [if_pos hl, byteOf_low_succ _ _ hr, e]
      first | rw [words_row] | rw [turn_words_row]
      show _ = (x _ &&& 15#8) + 1#8
      congr 3; congr 1
      exact Fin.ext (by simp [byteLane]; omega)
    · have e : isHigh l = true := by simp [isHigh]; omega
      rw [if_neg hl, e]
      rw [shr4, byteOf_low_shr_succ _ _ hr]
      first | rw [words_row] | rw [turn_words_row]
      show _ = (x _ >>> 4) + 1#8
      congr 3; congr 1
      exact Fin.ext (by simp [byteLane]; omega)

theorem mCode_apply (h : Bool) (x : IVec S32x128 8) (r : Fin 32) (l : Fin 128) :
    bitcast S32x128 8 (andi
      (match h with
        | false => select leftLanes (shli (wordsOf x) (broadcast S8x128 4#32)) (turn (wordsOf x))
        | true => select leftLanes (shli (turn (wordsOf x)) (broadcast S8x128 4#32)) (wordsOf x))
      (broadcast S8x128 4042322160#32)) bitcasts_S8x128_w32_S32x128_w8 (ix2 r l)
      = nib16 (isHigh l) (x (ix2 r (byteLane h l))) := by
  rw [bytes_apply]
  have hr : r.val % 4 < 4 := by omega
  cases h
  all_goals
    show byteOf ((select leftLanes _ _ (ix2 _ l)) &&& 4042322160#32) _ = _
    rw [pick]
    by_cases hl : l.val < 64
    · have e : isHigh l = false := by simp [isHigh]; omega
      rw [if_pos hl, e]
      rw [shl4, byteOf_high_shl _ _ hr]
      first | rw [words_row] | rw [turn_words_row]
      show _ = x _ <<< 4
      congr 2; congr 1
      exact Fin.ext (by simp [byteLane]; omega)
    · have e : isHigh l = true := by simp [isHigh]; omega
      rw [if_neg hl, e, byteOf_high _ _ hr]
      first | rw [words_row] | rw [turn_words_row]
      show _ = x _ &&& 240#8
      congr 2; congr 1
      exact Fin.ext (by simp [byteLane]; omega)

theorem vTerm_apply (h : Bool) (x : IVec S32x128 8) (r : Fin 32) (l : Fin 128) :
    vTerm (F := Ideal) h x (ix2 r l) = (((nib (isHigh l) (x (ix2 r (byteLane h l))) + 1#8).toInt : ℝ) : EReal) :=
  congrArg (fun b : BitVec 8 => ((b.toInt : ℝ) : EReal)) (vCode_apply h x r l)

theorem mTerm_apply (h : Bool) (x : IVec S32x128 8) (r : Fin 32) (l : Fin 128) :
    mTerm (F := Ideal) h x (ix2 r l)
      = (((nib16 (isHigh l) (x (ix2 r (byteLane h l)))).toInt : ℝ) : EReal)
          * max (((nib16 (isHigh l) (x (ix2 r (byteLane h l)))).toInt : ℝ) : EReal)
              (-(((nib16 (isHigh l) (x (ix2 r (byteLane h l)))).toInt : ℝ) : EReal)) :=
  congrArg (fun b : BitVec 8 => ((b.toInt : ℝ) : EReal) * max ((b.toInt : ℝ) : EReal) (-((b.toInt : ℝ) : EReal)))
    (mCode_apply h x r l)

end Cert.MainIdeal.Hand

end
-- ==== Proof.Scalars.lean ====
/-
  The two moments, the update and the new weight of one number, as extended reals: how the plain formulas write them, and
  that the kernel's factored forms are the same numbers.
-/
module

public import Idealize.ShloMosaic.PureOps.Ideal.Laws
public import Idealize.ShloMosaic.Lib.IdealHost

@[expose] public section

noncomputable section

namespace Cert.Scalars

open Idealize.ShloMosaic

/-- A number times its own size. -/
def signedSquare (x : EReal) : EReal := x * max x (-x)

/-- The first moment from its code, its scale and the gradient. -/
def firstMoment (z : ℤ) (sc g : EReal) : EReal :=
  Ideal.div ((9 : ℝ) : EReal) ((10 : ℝ) : EReal) * (sc * Ideal.div (signedSquare ((z : ℝ) : EReal)) ((49 : ℝ) : EReal))
    + Ideal.div ((1 : ℝ) : EReal) ((10 : ℝ) : EReal) * g

/-- The second moment from its code, its row's and its column's scale and the gradient. -/
def secondMoment (c : ℤ) (r co g : EReal) : EReal :=
  Ideal.div ((19 : ℝ) : EReal) ((20 : ℝ) : EReal) * (Ideal.div (((c : ℝ) : EReal) + ((1 : ℝ) : EReal)) ((16 : ℝ) : EReal) * min r co)
    + Ideal.div ((1 : ℝ) : EReal) ((20 : ℝ) : EReal) * (g * g)

/-- The correction of a moment after `t` steps, from the logarithm of its decay. -/
def correction (ln : EReal) (t : ℤ) : EReal := -(Ideal.exp (((t : ℝ) : EReal) * ln) - 1)

/-- The update from the moments, their corrections and the guard. -/
def update (m v b₁ b₂ ε : EReal) : EReal := Ideal.div (Ideal.div m b₁) (Ideal.sqrt (Ideal.div v b₂) + ε)

/-- The new weight. -/
def weight (w lr wd u : EReal) : EReal := w * (((1 : ℝ) : EReal) - lr * wd) - lr * u

theorem nine : Ideal.ofBits .f32 0x41100000#32 = ((9 : ℝ) : EReal) := by simp [Ideal.ofBits, Ideal.ieee, -EReal.coe_mul]; norm_num
theorem ten : Ideal.ofBits .f32 0x41200000#32 = ((10 : ℝ) : EReal) := by simp [Ideal.ofBits, Ideal.ieee, -EReal.coe_mul]; norm_num
theorem sixteen : Ideal.ofBits .f32 0x41800000#32 = ((16 : ℝ) : EReal) := by simp [Ideal.ofBits, Ideal.ieee, -EReal.coe_mul]; norm_num
theorem nineteen : Ideal.ofBits .f32 0x41980000#32 = ((19 : ℝ) : EReal) := by simp [Ideal.ofBits, Ideal.ieee, -EReal.coe_mul]; norm_num
theorem twenty : Ideal.ofBits .f32 0x41A00000#32 = ((20 : ℝ) : EReal) := by simp [Ideal.ofBits, Ideal.ieee, -EReal.coe_mul]; norm_num
theorem fortynine : Ideal.ofBits .f32 0x42440000#32 = ((49 : ℝ) : EReal) := by simp [Ideal.ofBits, Ideal.ieee, -EReal.coe_mul]; norm_num
theorem one : Ideal.ofBits .f32 0x3F800000#32 = ((1 : ℝ) : EReal) := Ideal.ofBits_one_f32
theorem half : Ideal.ofBits .f32 0x3F000000#32 = ((1 / 2 : ℝ) : EReal) := by simp [Ideal.ofBits, Ideal.ieee, -EReal.coe_mul]; norm_num
theorem growth : Ideal.ofBits .f32 0x3F980000#32 = ((19 / 16 : ℝ) : EReal) := by simp [Ideal.ofBits, Ideal.ieee, -EReal.coe_mul]; norm_num
theorem bottom : Ideal.ofBits .f32 0xFF800000#32 = ⊥ := by simp [Ideal.ofBits, Ideal.ieee]
/-- The guard is a positive real. -/
theorem guard : ∃ ε : ℝ, 0 < ε ∧ Ideal.ofBits .f32 0x322BCC77#32 = (ε : EReal) := by
  refine ⟨11258999 * (2 : ℝ)⁻¹ ^ 50, by positivity, ?_⟩
  simp [Ideal.ofBits, Ideal.ieee, -EReal.coe_mul]
/-- The two logarithms are negative reals. -/
theorem log₁ : ∃ l : ℝ, l < 0 ∧ Ideal.ofBits .f32 0xBDD7C741#32 = (l : EReal) := by
  refine ⟨-(14141249 * (2 : ℝ)⁻¹ ^ 27), by norm_num, ?_⟩
  simp [Ideal.ofBits, Ideal.ieee, -EReal.coe_mul, -EReal.coe_neg]
theorem log₂ : ∃ l : ℝ, l < 0 ∧ Ideal.ofBits .f32 0xBD5218EB#32 = (l : EReal) := by
  refine ⟨-(13768939 * (2 : ℝ)⁻¹ ^ 28), by norm_num, ?_⟩
  simp [Ideal.ofBits, Ideal.ieee, -EReal.coe_mul, -EReal.coe_neg]

theorem div_real (x : EReal) {y : ℝ} (h : y ≠ 0) : Ideal.div x (y : EReal) = x * ((1 / y : ℝ) : EReal) := Ideal.div_coe h x

theorem signedSquare_real (x : ℝ) : signedSquare (x : EReal) = ((x * |x| : ℝ) : EReal) := by
  unfold signedSquare
  rw [← EReal.coe_neg, show max ((x : ℝ) : EReal) ((-x : ℝ) : EReal) = ((max x (-x) : ℝ) : EReal) from
    (EReal.coe_strictMono.monotone.map_max).symm, EReal.coe_mul]
  rfl

theorem add_mul_real {k : ℝ} (hk : 0 ≤ k) (x y : EReal) : (x + y) * (k : EReal) = x * k + y * k :=
  EReal.right_distrib_of_nonneg_of_ne_top (by exact_mod_cast hk) (EReal.coe_ne_top k) x y

/-- The kernel carries ten first moments, from sixteen times the code. -/
theorem firstMoment_eq (z y : ℤ) (hy : y = 16 * z) (sc g : EReal) :
    (g + signedSquare ((y : ℝ) : EReal) * (sc * ((9 / 12544 : ℝ) : EReal))) * ((1 / 10 : ℝ) : EReal) = firstMoment z sc g := by
  subst hy
  unfold firstMoment
  rw [add_mul_real (by norm_num), div_real _ (by norm_num), div_real _ (by norm_num), div_real _ (by norm_num), signedSquare_real, signedSquare_real,
    add_comm]
  congr 1
  · rw [← EReal.coe_mul, ← EReal.coe_mul, mul_comm sc, ← mul_assoc, mul_right_comm, ← EReal.coe_mul, ← EReal.coe_mul,
      mul_comm sc, ← mul_assoc, ← EReal.coe_mul]
    congr 2
    push_cast
    rw [abs_mul, abs_of_pos (by norm_num : (0 : ℝ) < 16)]
    ring
  · rw [← EReal.coe_mul, mul_comm]
    congr 2
    norm_num

theorem scaled_mono {k : ℝ} (hk : 0 ≤ k) : Monotone fun x : EReal => x * (k : EReal) :=
  fun _ _ h => mul_le_mul_of_nonneg_right h (by exact_mod_cast hk)

theorem min_scaled {k : ℝ} (hk : 0 ≤ k) (x y : EReal) : min (x * (k : EReal)) (y * k) = min x y * k :=
  (scaled_mono hk).map_min.symm

/-- The kernel carries twenty second moments, from scales already grown. -/
theorem secondMoment_eq (c d : ℤ) (hd : d = c + 1) (r co g : EReal) :
    (g * g + ((d : ℝ) : EReal) * min (r * ((19 / 16 : ℝ) : EReal)) (co * ((19 / 16 : ℝ) : EReal))) * ((1 / 20 : ℝ) : EReal)
      = secondMoment c r co g := by
  subst hd
  unfold secondMoment
  rw [min_scaled (by norm_num), add_mul_real (by norm_num), div_real _ (by norm_num), div_real _ (by norm_num), div_real _ (by norm_num),
    add_comm]
  congr 1
  · rw [← EReal.coe_add, ← EReal.coe_mul, ← EReal.coe_mul, mul_comm (min r co), ← mul_assoc, mul_right_comm, ← EReal.coe_mul, ← EReal.coe_mul,
      ← mul_assoc, ← EReal.coe_mul]
    congr 2
    push_cast
    ring
  · rw [← EReal.coe_mul, mul_comm]
    congr 2
    norm_num

/-- The correction, real and positive after a step, and the kernel's way to it through the hyperbolic tangent. -/
theorem correction_eq (l : ℝ) (hl : l < 0) (t : ℤ) (ht : 1 ≤ t) : ∃ b : ℝ, 0 < b ∧ correction (l : EReal) t = (b : EReal)
    ∧ ((0 : EReal) - Ideal.tanh (((1 / 2 : ℝ) : EReal) * (((t : ℝ) : EReal) * (l : EReal))))
        * (Ideal.exp (((t : ℝ) : EReal) * (l : EReal)) + ((1 : ℝ) : EReal)) = (b : EReal) := by
  have htl : (t : ℝ) * l < 0 := mul_neg_of_pos_of_neg (by exact_mod_cast (by omega : 0 < t)) hl
  refine ⟨1 - Real.exp ((t : ℝ) * l), by have := Real.exp_lt_exp.mpr htl; rw [Real.exp_zero] at this; linarith, ?_, ?_⟩
  · unfold correction
    rw [← EReal.coe_mul, Ideal.exp_coe, ← EReal.coe_one, ← EReal.coe_sub, ← EReal.coe_neg]
    congr 1; ring
  · rw [← EReal.coe_mul, ← EReal.coe_mul, Ideal.exp_coe, Ideal.tanh_coe, ← EReal.coe_zero, ← EReal.coe_sub, ← EReal.coe_add, ← EReal.coe_mul]
    congr 1
    rw [Real.tanh_eq_sinh_div_cosh, Real.sinh_eq, Real.cosh_eq]
    set y := (t : ℝ) * l
    have e1 : Real.exp y = Real.exp (1 / 2 * y) * Real.exp (1 / 2 * y) := by rw [← Real.exp_add]; congr 1; ring
    have e2 : Real.exp (-(1 / 2 * y)) = (Real.exp (1 / 2 * y))⁻¹ := Real.exp_neg _
    rw [e1, e2]
    have hp : 0 < Real.exp (1 / 2 * y) := Real.exp_pos _
    set x := Real.exp (1 / 2 * y)
    have hx : x + x⁻¹ ≠ 0 := by positivity
    have hx2 : x * x + 1 ≠ 0 := by positivity
    field_simp
    ring

/-- The kernel's update, from ten first moments, twenty second moments and the two factors of the step. -/
theorem update_eq (M a : EReal) (ha : 0 ≤ a) {b₁ b₂ ε : ℝ} (h₁ : 0 < b₁) (h₂ : 0 < b₂) (hε : 0 < ε) :
    M * Ideal.div ((1 : ℝ) : EReal) (Ideal.div ((1 : ℝ) : EReal) (Ideal.rsqrt a) + Ideal.div (ε : EReal) (Ideal.sqrt (Ideal.div ((1 / 20 : ℝ) : EReal) (b₂ : EReal))))
        * Ideal.div ((1 / 10 : ℝ) : EReal) ((b₁ : EReal) * Ideal.sqrt (Ideal.div ((1 / 20 : ℝ) : EReal) (b₂ : EReal)))
      = update (M * ((1 / 10 : ℝ) : EReal)) (a * ((1 / 20 : ℝ) : EReal)) b₁ b₂ ε := by
  have hκ : (0 : ℝ) < 1 / 20 * (1 / b₂) := by positivity
  have hs : 0 < Real.sqrt (1 / 20 * (1 / b₂)) := Real.sqrt_pos.mpr hκ
  have es : Ideal.sqrt (Ideal.div ((1 / 20 : ℝ) : EReal) (b₂ : EReal)) = ((Real.sqrt (1 / 20 * (1 / b₂)) : ℝ) : EReal) := by
    rw [div_real _ h₂.ne', ← EReal.coe_mul, Ideal.sqrt_coe, if_neg (not_lt.mpr hκ.le)]
  rw [es]
  unfold update
  rw [div_real _ h₁.ne', div_real _ h₂.ne', mul_assoc a, ← EReal.coe_mul]
  generalize hS : Real.sqrt (1 / 20 * (1 / b₂)) = s at *
  rw [div_real _ hs.ne', ← EReal.coe_mul, ← EReal.coe_mul, div_real _ (mul_pos h₁ hs).ne', ← EReal.coe_mul]
  induction a using EReal.rec with
  | bot => exact absurd ha (by simp)
  | top =>
    have e1 : Ideal.div ((1 : ℝ) : EReal) 0 = ⊤ := by simp [Ideal.div]
    have e2 : ∀ x : EReal, Ideal.div x ⊤ = 0 := fun x => by simp [Ideal.div]
    rw [Ideal.rsqrt_top, e1, EReal.top_add_coe, e2, mul_zero, zero_mul, EReal.top_mul_coe_of_pos hκ, Ideal.sqrt_top, EReal.top_add_coe, e2]
  | coe a =>
    have ha' : 0 ≤ a := by exact_mod_cast ha
    have er : Ideal.div ((1 : ℝ) : EReal) (Ideal.rsqrt (a : EReal)) = ((Real.sqrt a : ℝ) : EReal) := by
      rw [Ideal.rsqrt_coe, if_neg (not_lt.mpr ha')]
      rcases ha'.eq_or_lt with h | h
      · subst h
        rw [if_pos rfl]; simp [Ideal.div]
      · rw [if_neg h.ne', div_real _ (inv_ne_zero (Real.sqrt_pos.mpr h).ne'), ← EReal.coe_mul]
        congr 1; simp
    have eq : Ideal.sqrt ((a : EReal) * ((1 / 20 * (1 / b₂) : ℝ) : EReal)) = ((Real.sqrt a * s : ℝ) : EReal) := by
      rw [← EReal.coe_mul, Ideal.sqrt_coe, if_neg (not_lt.mpr (mul_nonneg ha' hκ.le)), Real.sqrt_mul ha', hS]
    have hq := Real.sqrt_nonneg a
    generalize Real.sqrt a = q at *
    rw [er, eq, ← EReal.coe_add, ← EReal.coe_add, div_real _ (by positivity), div_real _ (by positivity)]
    simp only [mul_assoc, ← EReal.coe_mul]
    congr 2
    have h3 : q + ε * (1 / s) ≠ 0 := by positivity
    have h4 : q * s + ε ≠ 0 := by positivity
    have h5 : q + ε * (1 / s) = (q * s + ε) / s := by field_simp
    rw [h5]
    field_simp

theorem weight_eq (w lr wd u : EReal) : w * (((1 : ℝ) : EReal) - lr * wd) - u * lr = weight w lr wd u := by
  unfold weight; rw [mul_comm u lr]

/-- The size of a scaled number. -/
theorem size_scaled {k : ℝ} (hk : 0 ≤ k) (x : EReal) : max (x * (k : EReal)) (-(x * k)) = max x (-x) * k := by
  rw [← EReal.neg_mul]
  exact (scaled_mono hk).map_max.symm

/-- A running maximum from minus infinity, scaled. -/
theorem fold_scaled {ι : Type} {k : ℝ} (hk : 0 < k) (s : Finset ι) (f : ι → EReal) :
    s.fold max ⊥ f * (k : EReal) = s.fold max ⊥ fun i => f i * (k : EReal) := by
  classical
  induction s using Finset.induction with
  | empty => simpa using EReal.bot_mul_coe_of_pos hk
  | insert a s ha ih =>
    rw [Finset.fold_insert ha, Finset.fold_insert ha, ← ih]
    exact (scaled_mono hk.le).map_max

end Cert.Scalars

end
-- ==== Proof.PointBlocks.lean ====
/-
  What the inner loop leaves at a row and a column of the 128 rows of a grid point, as extended reals: the first moment
  (ten times), the second moment (twenty times), the update, the new weight and the new scale.
-/
module

public import proofs.«01_k».proof.Proof.PointCodes
public import proofs.«01_k».proof.Proof.Scalars
public import proofs.«01_k».proof.Proof.Loop
public import Idealize.ShloMosaic.PureOps.Ideal.Laws

@[expose] public section

set_option maxRecDepth 16384

noncomputable section

namespace Cert.MainIdeal.Hand

open Cert.MainIdeal Cert.MainIdeal.Gen
open Idealize.ShloMosaic Idealize.ShloMosaic.TcCoe
open Idealize.ShloMosaic.ValueIdx Cert.Scalars

/-- The row of a block that row `j` of tile `i` is. -/
def tileRow (i : Fin 4) (j : Fin 8) : Fin 32 := ⟨8 * i.val + j.val, by omega⟩

section
variable {α : Type}

theorem cut_at {R C n m : ℕ} [NeZero R] [NeZero C] (X : (⟨2, ![R, C]⟩ : Shape).Idx → α) (o₀ o₁ : ℕ) (a : Fin n) (b : Fin m)
    (A : Fin R) (B : Fin C) (hA : A.val = o₀ + a.val) (hB : B.val = o₁ + b.val) : cut n m X o₀ o₁ (ix2 a b) = X (ix2 A B) := by
  show X (ix2 (Fin.ofNat R (o₀ + a.val)) (Fin.ofNat C (o₁ + b.val))) = _
  congr 2
  · exact Fin.ext (by show (o₀ + a.val) % R = _; rw [← hA, Nat.mod_eq_of_lt A.isLt])
  · exact Fin.ext (by show (o₁ + b.val) % C = _; rw [← hB, Nat.mod_eq_of_lt B.isLt])
end

theorem tiles_apply (x : FVec Ideal S32x128 .f32) (i : Fin 4) (j : Fin 8) (l : Fin 128) :
    tiles x (ix3 i j l) = x (ix2 (tileRow i j) l) := by
  unfold tiles
  refine shapeCast_apply x _ _ _ ?_
  rw [Shape.rowMajor_val_three, Shape.rowMajor_val_two]
  show (8 * i.val + j.val) * 128 + l.val = (i.val * 8 + j.val) * 128 + l.val
  omega

theorem narrow_apply (x : FVec Ideal S4x8x128 .f32) (i : Fin 4) (j : Fin 8) (l : Fin 128) :
    narrow x (ix2 (tileRow i j) l) = x (ix3 i j l) := by
  show shapeCast S32x128 x shapeCasts_S4x8x128_S32x128 (ix2 (tileRow i j) l) = _
  refine shapeCast_apply x _ _ _ ?_
  rw [Shape.rowMajor_val_three, Shape.rowMajor_val_two]
  show (i.val * 8 + j.val) * 128 + l.val = (8 * i.val + j.val) * 128 + l.val
  omega

theorem wide_apply (x : FVec Ideal S32x128 .bf16) (i : Fin 4) (j : Fin 8) (l : Fin 128) :
    wide x (ix3 i j l) = x (ix2 (tileRow i j) l) := by
  unfold wide
  rw [tiles_apply]
  exact shapeCast_apply x _ _ _ rfl

theorem eachTile_apply (x : FVec Ideal S8x128 .f32) (i : Fin 4) (j : Fin 8) (l : Fin 128) :
    eachTile x (ix3 i j l) = x (ix2 j l) := by
  unfold eachTile
  rw [broadcastTo_apply _ _ _ (ix3 (0 : Fin 1) j l) (fun a => by match a with | ⟨0, _⟩ => rfl | ⟨1, _⟩ => rfl | ⟨2, _⟩ => rfl)]
  refine shapeCast_apply x _ _ _ ?_
  rw [Shape.rowMajor_val_three, Shape.rowMajor_val_two]
  show j.val * 128 + l.val = (0 * 8 + j.val) * 128 + l.val
  omega

theorem spread_apply (x : FVec Ideal S1x8x128 .f32) (i : Fin 4) (j : Fin 8) (l : Fin 128) :
    broadcastTo S4x8x128 x broadcasts_S1x8x128_S4x8x128 (ix3 i j l) = x (ix3 (0 : Fin 1) j l) :=
  broadcastTo_apply _ _ _ _ (fun a => by match a with | ⟨0, _⟩ => rfl | ⟨1, _⟩ => rfl | ⟨2, _⟩ => rfl)

theorem column_apply (x : FVec Ideal S32x1 .f32) (r : Fin 32) (l : Fin 128) :
    broadcastTo S32x128 x broadcasts_S32x1_S32x128 (ix2 r l) = x (ix2 r (0 : Fin 1)) :=
  broadcastTo_apply _ _ _ _ (fun a => by match a with | ⟨0, _⟩ => rfl | ⟨1, _⟩ => rfl)

variable (L : Loads Ideal)

/-- The byte column of a column. -/
def byteCol (d : Fin 4096) : Fin 2048 := ⟨d.val / 128 * 64 + d.val % 64, by omega⟩
/-- Whether the code of a column is a high half. -/
def colHigh (d : Fin 4096) : Bool := decide (64 ≤ d.val % 128)
/-- The scale of a column. -/
def colBlock (d : Fin 4096) : Fin 32 := ⟨d.val / 128, by omega⟩
/-- The lane of a column. -/
def colLane (d : Fin 4096) : Fin 128 := ⟨d.val % 128, by omega⟩

/-- Ten first moments. -/
def elemM (r : Fin 128) (d : Fin 4096) : EReal :=
  (L.g (ix2 r d) : EReal) + signedSquare (((nib16 (colHigh d) (L.mc (ix2 r (byteCol d)))).toInt : ℝ) : EReal) * L.ms (ix2 r (colBlock d))

/-- Twenty second moments. -/
def elemA (r : Fin 128) (d : Fin 4096) : EReal :=
  (L.g (ix2 r d) : EReal) * L.g (ix2 r d) + (((nib (colHigh d) (L.vc (ix2 r (byteCol d))) + 1#8).toInt : ℝ) : EReal)
    * min (L.rn (ix2 r (colLane d)) : EReal) (L.cn (ix2 (⟨r.val % 8, by omega⟩ : Fin 8) d))

/-- The update. -/
def elemU (r : Fin 128) (d : Fin 4096) : EReal :=
  elemM L r d * Ideal.div 1 (Ideal.div 1 (Ideal.rsqrt (elemA L r d)) + L.e (ix3 (0 : Fin 1) (⟨r.val % 8, by omega⟩ : Fin 8) (colLane d)))
    * L.k (ix3 (0 : Fin 1) (⟨r.val % 8, by omega⟩ : Fin 8) (colLane d))

/-- The new weight. -/
def elemP (r : Fin 128) (d : Fin 4096) : EReal := (L.w (ix2 r d) : EReal) * L.dec - elemU L r d * L.lr

section
variable (k q : ℕ) (i : Fin 4) (j : Fin 8) (l : Fin 128) (r : Fin 128) (d : Fin 4096)
  (hr : r.val = 32 * k + (8 * i.val + j.val)) (hd : d.val = 128 * q + l.val)
include hr hd

theorem byte_at (X : S128x2048.Idx → BitVec 8) :
    cut 32 128 X (32 * k) (128 * (q / 2)) (ix2 (tileRow i j) (byteLane (q % 2 == 1) l)) = X (ix2 r (byteCol d)) :=
  cut_at X _ _ _ _ _ _ hr (by
    show d.val / 128 * 64 + d.val % 64 = 128 * (q / 2) + ((if (q % 2 == 1) = true then 64 else 0) + l.val % 64)
    have := l.isLt
    split <;> simp_all <;> omega)

theorem high_at : isHigh l = colHigh d := by
  unfold isHigh colHigh
  rw [show d.val % 128 = l.val by have := l.isLt; omega]

theorem m_at : L.m k q (ix3 i j l) = elemM L r d := by
  show wide _ _ + tiles _ _ = _
  rw [wide_apply, tiles_apply]
  show _ + mTerm _ _ _ * broadcastTo _ _ _ _ = _
  rw [mTerm_apply, column_apply, byte_at k q i j l r d hr hd, high_at k q i j l r d hr hd,
    cut_at L.g _ _ _ _ r d hr hd, cut_at L.ms _ _ _ _ r (colBlock d) hr (by show d.val / 128 = q + 0; have := l.isLt; omega)]
  rfl

theorem a_at : L.a k q (ix3 i j l) = elemA L r d := by
  show wide _ _ * wide _ _ + tiles _ _ * min (tiles _ _) (eachTile _ _) = _
  rw [wide_apply, tiles_apply, tiles_apply, eachTile_apply, vTerm_apply, byte_at k q i j l r d hr hd,
    high_at k q i j l r d hr hd, cut_at L.g _ _ _ _ r d hr hd,
    cut_at L.rn _ _ _ _ r (colLane d) hr (by show d.val % 128 = 0 + l.val; have := l.isLt; omega),
    cut_at L.cn _ _ _ _ (⟨r.val % 8, by omega⟩ : Fin 8) d (by show r.val % 8 = 0 + j.val; have := j.isLt; omega) hd]
  rfl

theorem u_at : L.u k q (ix3 i j l) = elemU L r d := by
  show L.m k q _ * Ideal.div 1 (Ideal.div 1 (Ideal.rsqrt (L.a k q _)) + broadcastTo _ _ _ _) * broadcastTo _ _ _ _ = _
  rw [spread_apply, spread_apply, m_at L k q i j l r d hr hd, a_at L k q i j l r d hr hd]
  unfold elemU
  rw [show j = (⟨r.val % 8, by omega⟩ : Fin 8) from Fin.ext (by show j.val = r.val % 8; have := j.isLt; omega),
    show l = colLane d from Fin.ext (by show l.val = d.val % 128; have := l.isLt; omega)]

theorem p_at : L.p k q (ix3 i j l) = elemP L r d := by
  show wide _ _ * L.dec - L.u k q _ * L.lr = _
  rw [wide_apply, u_at L k q i j l r d hr hd, cut_at L.w _ _ _ _ r d hr hd]
  rfl

end

theorem outU_apply (r : Fin 128) (d : Fin 4096) : outU L (ix2 r d) = elemU L r d := by
  show narrow (L.u (r.val / 32) (d.val / 128)) (ix2 (Fin.ofNat 32 r.val) (Fin.ofNat 128 d.val)) = _
  rw [show (Fin.ofNat 32 r.val) = tileRow ⟨r.val % 32 / 8, by omega⟩ ⟨r.val % 8, by omega⟩ from
    Fin.ext (by show r.val % 32 = 8 * (r.val % 32 / 8) + r.val % 8; omega), narrow_apply]
  exact u_at L _ _ _ _ _ _ _ (by show r.val = 32 * (r.val / 32) + (8 * (r.val % 32 / 8) + r.val % 8); omega)
    (by show d.val = 128 * (d.val / 128) + d.val % 128; omega)

theorem outP_apply (r : Fin 128) (d : Fin 4096) : outP L (ix2 r d) = elemP L r d := by
  show narrow (L.p (r.val / 32) (d.val / 128)) (ix2 (Fin.ofNat 32 r.val) (Fin.ofNat 128 d.val)) = _
  rw [show (Fin.ofNat 32 r.val) = tileRow ⟨r.val % 32 / 8, by omega⟩ ⟨r.val % 8, by omega⟩ from
    Fin.ext (by show r.val % 32 = 8 * (r.val % 32 / 8) + r.val % 8; omega), narrow_apply]
  exact p_at L _ _ _ _ _ _ _ (by show r.val = 32 * (r.val / 32) + (8 * (r.val % 32 / 8) + r.val % 8); omega)
    (by show d.val = 128 * (d.val / 128) + d.val % 128; omega)

end Cert.MainIdeal.Hand

end
-- ==== Proof.PointTables.lean ====
/-
  The tables a grid point makes before its inner loop, at a row and a column, as extended reals; and the new scales of the
  first moment.
-/
module

public import proofs.«01_k».proof.Proof.Inputs
public import proofs.«01_k».proof.Proof.PointBlocks

@[expose] public section

set_option maxRecDepth 16384

noncomputable section

namespace Cert.MainIdeal.Hand

open Cert.MainIdeal Cert.MainIdeal.Gen
open Idealize.ShloMosaic Idealize.ShloMosaic.TcCoe
open Idealize.ShloMosaic.ValueIdx Cert.Scalars

theorem named_norm : (Named.named κ "m_norm" 0x3A3C14E6#32 : Ideal .f32) = ((9 / 12544 : ℝ) : EReal) :=
  IdealRules.named_const.ideal_named_scalar _ _ _ _ rfl
theorem named_tenth : (Named.named κ "one_minus_beta1" 0x3DCCCCCD#32 : Ideal .f32) = ((1 / 10 : ℝ) : EReal) :=
  IdealRules.named_const.ideal_named_scalar _ _ _ _ rfl
theorem named_twentieth : (Named.named κ "one_minus_beta2" 0x3D4CCCCD#32 : Ideal .f32) = ((1 / 20 : ℝ) : EReal) :=
  IdealRules.named_const.ideal_named_scalar _ _ _ _ rfl

/-- A column's scale, grown. -/
theorem col_apply (X : FVec Ideal S1x4096 .f32) (j : Fin 8) (d : Fin 4096) :
    k0_pay751 X (ix2 j d) = (X (ix2 (0 : Fin 1) d) : EReal) * ((19 / 16 : ℝ) : EReal) := by
  unfold k0_pay751
  rw [shapeCast_apply _ _ _ (ix2 j d) rfl, broadcastTo_apply _ _ _ (ix2 (0 : Fin 1) d) (fun a => by match a with | ⟨0, _⟩ => rfl | ⟨1, _⟩ => rfl),
    shapeCast_apply _ _ _ (ix2 (0 : Fin 1) d) rfl, ← growth]
  rfl

/-- A block's scale with its factor. -/
theorem scale_apply (X : FVec Ideal S128x32 .f32) (r : Fin 128) (q : Fin 32) :
    k0_pay756 X (ix2 r q) = (X (ix2 r q) : EReal) * ((9 / 12544 : ℝ) : EReal) := by
  unfold k0_pay756
  rw [shapeCast_apply _ _ _ (ix2 r q) rfl, ← named_norm]
  show (shapeCast S128x32 X _ (ix2 r q) : EReal) * _ = _
  rw [shapeCast_apply _ _ _ (ix2 r q) rfl]
  rfl

theorem slice_row (X : FVec Ideal S3x128 .f32) (o : ℕ) (h : S3x128.Slices ![o, 0] S1x128) (r : Fin 128) (ho : o < 3) :
    extractStridedSlice S1x128 ![o, 0] X h (ix2 (0 : Fin 1) r) = X (ix2 (Fin.ofNat 3 o) r) := by
  refine extractStridedSlice_apply _ _ _ _ _ ?_
  intro a
  match a with
  | ⟨0, _⟩ => show o % 3 = o + 0; omega
  | ⟨1, _⟩ => show r.val = 0 + r.val; omega

/-- A row's scale, grown. -/
theorem row_apply (i : grid0.Coords) (X : FVec Ideal S3x128 .f32) (r l : Fin 128) :
    rowTable i X (ix2 r l) = (X (ix2 (Fin.ofNat 3 (layer i)) r) : EReal) * ((19 / 16 : ℝ) : EReal) := by
  have hi : (i 0).val < 129 := (i 0).isLt
  have hl : layer i = 0 ∨ layer i = 1 ∨ layer i = 2 := by unfold layer; omega
  unfold rowTable k0_pay754
  rw [shapeCast_apply _ _ _ (ix2 r l) rfl, transpose_apply _ _ _ _ (ix2 l r) (fun a => by match a with | ⟨0, _⟩ => rfl | ⟨1, _⟩ => rfl),
    broadcastTo_apply _ _ _ (ix2 (0 : Fin 1) r) (fun a => by match a with | ⟨0, _⟩ => rfl | ⟨1, _⟩ => rfl),
    shapeCast_apply _ _ _ (ix2 (0 : Fin 1) r) rfl, ← growth]
  show ((Scalar.select (Scalar.cmpi .eq (layerWord i) 2#32) _ _ : FVec Ideal S1x128 .f32) (ix2 (0 : Fin 1) r) : EReal) * _ = _
  congr 1
  unfold k0_pay753
  show (Scalar.select (Scalar.cmpi .eq (layerWord i) 2#32) _ (Scalar.select (Scalar.cmpi .eq (layerWord i) 1#32) _ _) : FVec Ideal S1x128 .f32)
    (ix2 (0 : Fin 1) r) = _
  rw [layerWord_eq]
  rcases hl with h | h | h <;> rw [h]
  · exact slice_row X 0 slices_S3x128_o0_0_S1x128 r (by omega)
  · exact slice_row X 1 slices_S3x128_o1_0_S1x128 r (by omega)
  · exact slice_row X 2 slices_S3x128_o2_0_S1x128 r (by omega)

/-- The step's guard and factor, from the corrections. -/
theorem step_root (b : BitVec 32) {b₂ : ℝ}
    (h₂ : ((0 : EReal) - Ideal.tanh (((1 / 2 : ℝ) : EReal) * (((b.toInt : ℝ) : EReal) * Ideal.ofBits .f32 0xBD5218EB#32)))
        * (Ideal.exp (((b.toInt : ℝ) : EReal) * Ideal.ofBits .f32 0xBD5218EB#32) + ((1 : ℝ) : EReal)) = (b₂ : EReal)) (x : S8x128.Idx) :
    k0_pay760 (F := Ideal) b x = Ideal.sqrt (Ideal.div ((1 / 20 : ℝ) : EReal) (b₂ : EReal)) := by
  rw [← h₂, ← named_twentieth, ← half, ← one, ← Ideal.ofBits_zero_f32]
  rfl

theorem guard_apply (b : BitVec 32) {b₂ : ℝ}
    (h₂ : ((0 : EReal) - Ideal.tanh (((1 / 2 : ℝ) : EReal) * (((b.toInt : ℝ) : EReal) * Ideal.ofBits .f32 0xBD5218EB#32)))
        * (Ideal.exp (((b.toInt : ℝ) : EReal) * Ideal.ofBits .f32 0xBD5218EB#32) + ((1 : ℝ) : EReal)) = (b₂ : EReal)) (j : Fin 8) (l : Fin 128) :
    k0_pay761 (F := Ideal) b (ix3 (0 : Fin 1) j l)
      = Ideal.div (Ideal.ofBits .f32 0x322BCC77#32) (Ideal.sqrt (Ideal.div ((1 / 20 : ℝ) : EReal) (b₂ : EReal))) := by
  unfold k0_pay761
  rw [shapeCast_apply _ _ _ (ix2 j l) (by
    rw [Shape.rowMajor_val_three, Shape.rowMajor_val_two]; show j.val * 128 + l.val = (0 * 8 + j.val) * 128 + l.val; omega),
    ← step_root b h₂ (ix2 j l)]
  rfl

theorem factor_apply (b : BitVec 32) {b₁ b₂ : ℝ}
    (h₁ : ((0 : EReal) - Ideal.tanh (((1 / 2 : ℝ) : EReal) * (((b.toInt : ℝ) : EReal) * Ideal.ofBits .f32 0xBDD7C741#32)))
        * (Ideal.exp (((b.toInt : ℝ) : EReal) * Ideal.ofBits .f32 0xBDD7C741#32) + ((1 : ℝ) : EReal)) = (b₁ : EReal))
    (h₂ : ((0 : EReal) - Ideal.tanh (((1 / 2 : ℝ) : EReal) * (((b.toInt : ℝ) : EReal) * Ideal.ofBits .f32 0xBD5218EB#32)))
        * (Ideal.exp (((b.toInt : ℝ) : EReal) * Ideal.ofBits .f32 0xBD5218EB#32) + ((1 : ℝ) : EReal)) = (b₂ : EReal)) (j : Fin 8) (l : Fin 128) :
    k0_pay762 (F := Ideal) b (ix3 (0 : Fin 1) j l)
      = Ideal.div ((1 / 10 : ℝ) : EReal) ((b₁ : EReal) * Ideal.sqrt (Ideal.div ((1 / 20 : ℝ) : EReal) (b₂ : EReal))) := by
  unfold k0_pay762
  rw [shapeCast_apply _ _ _ (ix2 j l) (by
    rw [Shape.rowMajor_val_three, Shape.rowMajor_val_two]; show j.val * 128 + l.val = (0 * 8 + j.val) * 128 + l.val; omega),
    ← step_root b h₂ (ix2 j l), ← h₁, ← named_tenth, ← half, ← one, ← Ideal.ofBits_zero_f32]
  rfl

theorem decay_eq (lr wd : Ideal .f32) : k0_pay763 (F := Ideal) lr wd = (((1 : ℝ) : EReal) - (lr : EReal) * wd : EReal) := by
  rw [← one]
  rfl

/-- The column a lane of a block is. -/
def column (q : Fin 32) (l : Fin 128) : Fin 4096 := ⟨128 * q.val + l.val, by omega⟩

/-- The new scale of a row and a block. -/
theorem outS_apply (L : Loads Ideal) (r : Fin 128) (q : Fin 32) :
    outS L (ix2 r q) = ((Finset.univ.fold max ⊥ fun l : Fin 128 => max (elemM L r (column q l)) (-(elemM L r (column q l))) : EReal)
      * ((1 / 10 : ℝ) : EReal) : EReal) := by
  show sBlock (L.m (r.val / 32) (q.val / 1)) (ix2 (Fin.ofNat 32 r.val) (Fin.ofNat 1 q.val)) = _
  rw [Nat.div_one, show Fin.ofNat 1 q.val = (0 : Fin 1) from Subsingleton.elim _ _]
  unfold sBlock mMax
  show (shapeCast S32x1 _ _ _ : EReal) * (Named.named κ "one_minus_beta1" 0x3DCCCCCD#32 : Ideal .f32) = _
  rw [named_tenth, shapeCast_apply _ _ _ (ix3 (⟨r.val % 32 / 8, by omega⟩ : Fin 4) (⟨r.val % 8, by omega⟩ : Fin 8) (0 : Fin 1)) (by
    rw [Shape.rowMajor_val_three, Shape.rowMajor_val_two]; show ((r.val % 32 / 8) * 8 + r.val % 8) * 1 + 0 = r.val % 32 * 1 + 0; omega),
    shapeCast_apply _ _ _ (ix2 (⟨r.val % 32 / 8, by omega⟩ : Fin 4) (⟨r.val % 8, by omega⟩ : Fin 8)) (by
    rw [Shape.rowMajor_val_three, Shape.rowMajor_val_two]; show (r.val % 32 / 8) * 8 + r.val % 8 = ((r.val % 32 / 8) * 8 + r.val % 8) * 1 + 0; omega)]
  congr 1
  refine (Ideal.multiReduction_maximumf_single (s := S4x8x128) (t := S4x8) (a := 2) _ _ reduces_S4x8x128_S4x8 _ _ _).trans ?_
  show Finset.univ.fold max (Ideal.ofBits .f32 0xFF800000#32) _ = _
  rw [bottom]
  congr 1
  funext (l : Fin 128)
  show (fun x : EReal => max x (-x)) (L.m (r.val / 32) q.val _) = _
  rw [show reduces_S4x8x128_S4x8.lift (ix2 (⟨r.val % 32 / 8, by omega⟩ : Fin 4) (⟨r.val % 8, by omega⟩ : Fin 8)) l
      = ix3 (⟨r.val % 32 / 8, by omega⟩ : Fin 4) (⟨r.val % 8, by omega⟩ : Fin 8) l from by
    funext k
    match k with
    | ⟨0, _⟩ => rfl
    | ⟨1, _⟩ => rfl
    | ⟨2, _⟩ => rfl,
    m_at L _ _ _ _ _ r (column q l) (by show r.val = 32 * (r.val / 32) + (8 * (r.val % 32 / 8) + r.val % 8); omega) rfl]

end Cert.MainIdeal.Hand

end
-- ==== Proof.PointInputs.lean ====
/-
  What a grid point reads, in terms of the kernel's arguments: grid point `t` works on rows `128 * (t % 43)` to
  `128 * (t % 43) + 127` of layer `t / 43`.
-/
module

public import proofs.«01_k».proof.Proof.RegionIdeal
public import proofs.«01_k».proof.Proof.PointTables
public import Idealize.ShloMosaic.Lib.Pipeline.ValueKit.Geometry
public import Idealize.ShloMosaic.Lib.Pipeline.Value

@[expose] public section

set_option maxRecDepth 16384

noncomputable section

namespace Cert.MainIdeal.Hand

open Cert.MainIdeal Cert.MainIdeal.Gen
open Idealize.ShloMosaic Idealize.ShloMosaic.TcCoe Idealize.ShloMosaic.Tactic
open Idealize.ShloMosaic.ValueIdx Cert.Scalars

variable (m : (ℓ : Loc nD τ sig) → Buf (Elt Ideal) ℓ) (c : Dev nD) (t : Fin cfg0.N)

theorem point_lt : t.val < 129 := t.isLt

/-- The layer of a grid point. -/
def layerAt : Fin 3 := ⟨t.val / 43, by have := point_lt t; omega⟩
/-- A row of a grid point among its layer's rows. -/
def placeAt (r : Fin 128) : Fin 5504 := ⟨128 * (t.val % 43) + r.val, by omega⟩
/-- A row of a grid point among all rows. -/
def rowAt (r : Fin 128) : Fin 16512 := ⟨128 * t.val + r.val, by have := point_lt t; omega⟩

theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_0 : ∀ t : Fin cfg0.N, win0_0.index t = ![0] := (by decide +kernel : ∀ t : Fin grid0.N, _)
theorem index_1 : ∀ t : Fin cfg0.N, win0_1.index t = ![0] := (by decide +kernel : ∀ t : Fin grid0.N, _)
theorem index_2 : ∀ t : Fin cfg0.N, win0_2.index t = ![0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)

/-- The rows of the three layers laid end to end, read at a row of a grid point. -/
theorem flat_at {α : Type} {C : ℕ} (X : (⟨3, ![3, 5504, C]⟩ : Shape).Idx → α)
    (h : (⟨3, ![3, 5504, C]⟩ : Shape).ShapeCasts (⟨2, ![16512, C]⟩ : Shape)) (r : Fin 128) (d : Fin C) :
    shapeCast (⟨2, ![16512, C]⟩ : Shape) X h (ix2 (rowAt t r) d) = X (ix3 (layerAt t) (placeAt t r) d) := by
  refine shapeCast_apply X _ _ _ ?_
  rw [Shape.rowMajor_val_three, Shape.rowMajor_val_two]
  show (t.val / 43 * 5504 + (128 * (t.val % 43) + r.val)) * C + d.val = (128 * t.val + r.val) * C + d.val
  congr 2
  omega

section
variable (r : Fin 128)

theorem V_main_v0 : V m c main_v0 = shapeCast S16512x4096 (m ((c : Thread nD τ).loc main_arg1)) shapeCasts_S3x5504x4096_S16512x4096 := by
  show StableHlo.after hostOps0 _ (Proc.devRef .tc main_v0) = _
  after_results
  rfl
theorem V_main_v1 : V m c main_v1 = shapeCast S16512x4096 (m ((c : Thread nD τ).loc main_arg0)) shapeCasts_S3x5504x4096_S16512x4096 := by
  show StableHlo.after hostOps0 _ (Proc.devRef .tc main_v1) = _
  after_results
  rfl
theorem V_main_v2 : V m c main_v2 = shapeCast S16512x2048 (m ((c : Thread nD τ).loc main_arg2)) shapeCasts_S3x5504x2048_S16512x2048 := by
  show StableHlo.after hostOps0 _ (Proc.devRef .tc main_v2) = _
  after_results
  rfl
theorem V_main_v3 : V m c main_v3 = shapeCast S16512x32 (m ((c : Thread nD τ).loc main_arg3)) shapeCasts_S3x5504x32_S16512x32 := by
  show StableHlo.after hostOps0 _ (Proc.devRef .tc main_v3) = _
  after_results
  rfl
theorem V_main_v4 : V m c main_v4 = shapeCast S16512x2048 (m ((c : Thread nD τ).loc main_arg4)) shapeCasts_S3x5504x2048_S16512x2048 := by
  show StableHlo.after hostOps0 _ (Proc.devRef .tc main_v4) = _
  after_results
  rfl

theorem g_at (d : Fin 4096) : iblk m c 3 t (ix2 r d) = m ((c : Thread nD τ).loc main_arg1) (ix3 (layerAt t) (placeAt t r) d) := by
  rw [← flat_at t (m ((c : Thread nD τ).loc main_arg1)) shapeCasts_S3x5504x4096_S16512x4096 r d]
  show ((cfg0.win 3).blk t).view.read (Elt Ideal) (V m c main_v0) (ix2 r d) = _
  rw [V_main_v0]
  blk_simp
  congr 1
  blk_ext [index_3 t]
  exact congrArg (· + r.val) (Nat.mul_comm t.val 128)

theorem w_at (d : Fin 4096) : iblk m c 4 t (ix2 r d) = m ((c : Thread nD τ).loc main_arg0) (ix3 (layerAt t) (placeAt t r) d) := by
  rw [← flat_at t (m ((c : Thread nD τ).loc main_arg0)) shapeCasts_S3x5504x4096_S16512x4096 r d]
  show ((cfg0.win 4).blk t).view.read (Elt Ideal) (V m c main_v1) (ix2 r d) = _
  rw [V_main_v1]
  blk_simp
  congr 1
  blk_ext [index_4 t]
  exact congrArg (· + r.val) (Nat.mul_comm t.val 128)

theorem mc_at (d : Fin 2048) : iblk m c 5 t (ix2 r d) = m ((c : Thread nD τ).loc main_arg2) (ix3 (layerAt t) (placeAt t r) d) := by
  rw [← flat_at t (m ((c : Thread nD τ).loc main_arg2)) shapeCasts_S3x5504x2048_S16512x2048 r d]
  show ((cfg0.win 5).blk t).view.read (Elt Ideal) (V m c main_v2) (ix2 r d) = _
  rw [V_main_v2]
  blk_simp
  congr 1
  blk_ext [index_5 t]
  exact congrArg (· + r.val) (Nat.mul_comm t.val 128)

theorem ms_at (q : Fin 32) : iblk m c 6 t (ix2 r q) = m ((c : Thread nD τ).loc main_arg3) (ix3 (layerAt t) (placeAt t r) q) := by
  rw [← flat_at t (m ((c : Thread nD τ).loc main_arg3)) shapeCasts_S3x5504x32_S16512x32 r q]
  show ((cfg0.win 6).blk t).view.read (Elt Ideal) (V m c main_v3) (ix2 r q) = _
  rw [V_main_v3]
  blk_simp
  congr 1
  blk_ext [index_6 t]
  exact congrArg (· + r.val) (Nat.mul_comm t.val 128)

theorem vc_at (d : Fin 2048) : iblk m c 7 t (ix2 r d) = m ((c : Thread nD τ).loc main_arg4) (ix3 (layerAt t) (placeAt t r) d) := by
  rw [← flat_at t (m ((c : Thread nD τ).loc main_arg4)) shapeCasts_S3x5504x2048_S16512x2048 r d]
  show ((cfg0.win 7).blk t).view.read (Elt Ideal) (V m c main_v4) (ix2 r d) = _
  rw [V_main_v4]
  blk_simp
  congr 1
  blk_ext [index_7 t]
  exact congrArg (· + r.val) (Nat.mul_comm t.val 128)

theorem vr_at (y : S3x5504.Idx) : iblk m c 8 t y = m ((c : Thread nD τ).loc main_arg5) y := by
  show ((cfg0.win 8).blk t).view.read (Elt Ideal) (V m c main_arg5) y = _
  rw [V_main_arg5]
  blk_simp
  congr 1
  blk_ext [index_8 t]

theorem vl_at (y : S3x4096.Idx) : iblk m c 9 t y = m ((c : Thread nD τ).loc main_arg6) y := by
  show ((cfg0.win 9).blk t).view.read (Elt Ideal) (V m c main_arg6) y = _
  rw [V_main_arg6]
  blk_simp
  congr 1
  blk_ext [index_9 t]

theorem st_at (y : S3.Idx) : iblk m c 0 t y = m ((c : Thread nD τ).loc main_arg9) y := by
  show ((cfg0.win 0).blk t).view.read (Elt Ideal) (V m c main_arg9) y = _
  rw [V_main_arg9]
  blk_simp
  congr 1
  blk_ext [index_0 t]

theorem lr_at (y : S3.Idx) : iblk m c 1 t y = m ((c : Thread nD τ).loc main_arg10) y := by
  show ((cfg0.win 1).blk t).view.read (Elt Ideal) (V m c main_arg10) y = _
  rw [V_main_arg10]
  blk_simp
  congr 1
  blk_ext [index_1 t]

theorem wd_at (y : S3.Idx) : iblk m c 2 t y = m ((c : Thread nD τ).loc main_arg11) y := by
  show ((cfg0.win 2).blk t).view.read (Elt Ideal) (V m c main_arg11) y = _
  rw [V_main_arg11]
  blk_simp
  congr 1
  blk_ext [index_2 t]

end

theorem layer_eq : layer (grid0.coords t) = t.val / 43 := by unfold layer; rw [coord_val]
theorem chunk_eq : chunk (grid0.coords t) = t.val % 43 := by unfold chunk; rw [coord_val]
theorem layer_fin : Fin.ofNat 3 (layer (grid0.coords t)) = layerAt t :=
  Fin.ext (by show layer (grid0.coords t) % 3 = t.val / 43; rw [layer_eq]; have := point_lt t; omega)

end Cert.MainIdeal.Hand

end
-- ==== Proof.RefRead.lean ====
/- What the reference leaves at a row and a column of a layer, by the plain formulas for one number. -/
module

public import proofs.«01_k».proof.Proof.Gen.ReferenceIdeal.Read
public import proofs.«01_k».proof.Proof.Scalars
public import Idealize.ShloMosaic.Lib.KernelVsHost

@[expose] public section

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx Cert.Scalars

/-- The code in one half of a byte. -/
def code (hi : Bool) (b : BitVec 8) : BitVec 32 := if hi then (b.setWidth 32).sshiftRight 4 else b.setWidth 32 &&& 15#32

/-- The byte column of a column. -/
def byteOf (d : Fin 4096) : Fin 2048 := ⟨d.val / 128 * 64 + d.val % 64, by omega⟩
/-- Whether the code of a column is a high half. -/
def highOf (d : Fin 4096) : Bool := decide (64 ≤ d.val % 128)
/-- The block of a column. -/
def blockOf (d : Fin 4096) : Fin 32 := ⟨d.val / 128, by omega⟩

variable (x0 x1 : S3x5504x4096.Idx → EReal) (x2 x4 : S3x5504x2048.Idx → BitVec 8) (x3 : S3x5504x32.Idx → EReal)
  (x5 : S3x5504.Idx → EReal) (x6 : S3x4096.Idx → EReal) (x9 : S3.Idx → BitVec 32) (x10 x11 : S3.Idx → EReal)
  (a : Fin 3) (s : Fin 5504) (d : Fin 4096)

theorem unpacked : val_main_v8 (F := Ideal) x2 (ix3 a s d) = code (highOf d) (x2 (ix3 a s (byteOf d))) := by
  have ha := a.isLt
  have hs := s.isLt
  have hd := d.isLt
  rw [val_main_v8_apply]
  have e : idx_main_v8 (ix3 a s d) = ix5 a s (blockOf d) (⟨d.val / 64 % 2, by omega⟩ : Fin 2) (⟨d.val % 64, by omega⟩ : Fin 64) := by
    funext k
    match k with
    | ⟨0, _⟩ => exact Fin.ext (by show ((a.val * 5504 + s.val) * 4096 + d.val) / 22544384 = a.val; omega)
    | ⟨1, _⟩ => exact Fin.ext (by show ((a.val * 5504 + s.val) * 4096 + d.val) / 4096 % 5504 = s.val; omega)
    | ⟨2, _⟩ => exact Fin.ext (by show ((a.val * 5504 + s.val) * 4096 + d.val) / 128 % 32 = d.val / 128; omega)
    | ⟨3, _⟩ => exact Fin.ext (by show ((a.val * 5504 + s.val) * 4096 + d.val) / 64 % 2 = d.val / 64 % 2; omega)
    | ⟨4, _⟩ => exact Fin.ext (by show ((a.val * 5504 + s.val) * 4096 + d.val) % 64 = d.val % 64; omega)
  have e2 : idx_main_v2 (ix5 a s (blockOf d) (0 : Fin 1) (⟨d.val % 64, by omega⟩ : Fin 64)) = ix3 a s (byteOf d) := by
    funext k
    have hy : d.val / 128 * 64 + d.val % 64 < 2048 := by omega
    have key : (((a.val * 5504 + s.val) * 32 + d.val / 128) * 1 + 0) * 64 + d.val % 64
        = (a.val * 5504 + s.val) * 2048 + (d.val / 128 * 64 + d.val % 64) := by omega
    match k with
    | ⟨0, _⟩ => exact Fin.ext (by
        show ((((a.val * 5504 + s.val) * 32 + d.val / 128) * 1 + 0) * 64 + d.val % 64) / 11272192 = a.val
        rw [key]; generalize d.val / 128 * 64 + d.val % 64 = y at *; omega)
    | ⟨1, _⟩ => exact Fin.ext (by
        show ((((a.val * 5504 + s.val) * 32 + d.val / 128) * 1 + 0) * 64 + d.val % 64) / 2048 % 5504 = s.val
        rw [key]; generalize d.val / 128 * 64 + d.val % 64 = y at *; omega)
    | ⟨2, _⟩ => exact Fin.ext (by
        show ((((a.val * 5504 + s.val) * 32 + d.val / 128) * 1 + 0) * 64 + d.val % 64) % 2048 = d.val / 128 * 64 + d.val % 64
        rw [key]; generalize d.val / 128 * 64 + d.val % 64 = y at *; omega)
  rw [e]
  by_cases h : 64 ≤ d.val % 128
  · refine (concatenate_pair_apply_right (t := S3x5504x32x2x64) (s₁ := S3x5504x32x1x64) (s₂ := S3x5504x32x1x64) 3 _ _ _ _ rfl rfl
      (ix5 a s (blockOf d) (0 : Fin 1) (⟨d.val % 64, by omega⟩ : Fin 64)) ?_ ?_).trans ?_
    · intro b hb
      match b, hb with
      | ⟨0, _⟩, _ => rfl
      | ⟨1, _⟩, _ => rfl
      | ⟨2, _⟩, _ => rfl
      | ⟨3, _⟩, hb => exact absurd rfl hb
      | ⟨4, _⟩, _ => rfl
    · show 0 + 1 = d.val / 64 % 2
      omega
    · rw [val_main_v6_apply, val_main_v2_apply, e2, val_main_v1_apply, val_main_v5_apply, val_main_c_0_apply]
      unfold code highOf
      rw [decide_eq_true h]
      rfl
  · refine (concatenate_pair_apply_left (t := S3x5504x32x2x64) (s₁ := S3x5504x32x1x64) (s₂ := S3x5504x32x1x64) 3 _ _ _ _ rfl
      (ix5 a s (blockOf d) (0 : Fin 1) (⟨d.val % 64, by omega⟩ : Fin 64)) ?_).trans ?_
    · intro b
      match b with
      | ⟨0, _⟩ => rfl
      | ⟨1, _⟩ => rfl
      | ⟨2, _⟩ => rfl
      | ⟨3, _⟩ => show 0 = d.val / 64 % 2; omega
      | ⟨4, _⟩ => rfl
    · rw [val_main_v4_apply, val_main_v2_apply, e2, val_main_v1_apply, val_main_v3_apply, val_main_c_apply]
      unfold code highOf
      rw [decide_eq_false h]
      rfl

/-- The first moment's code as a number between -8 and 7. -/
def signedCode (hi : Bool) (b : BitVec 8) : ℤ := (((code hi b) ^^^ 8#32) - 8#32).toInt

theorem moment : val_main_v28 (F := Ideal) x1 x2 x3 (ix3 a s d)
    = firstMoment (signedCode (highOf d) (x2 (ix3 a s (byteOf d)))) (x3 (ix3 a s (blockOf d))) (x1 (ix3 a s d)) := by
  have ha := a.isLt
  have hs := s.isLt
  have hd := d.isLt
  have e : idx_main_v14 (idx_main_v15 (idx_main_v16 (ix3 a s d))) = ix3 a s (blockOf d) := by
    funext k
    match k with
    | ⟨0, _⟩ => exact Fin.ext (by show ((a.val * 5504 + s.val) * 4096 + d.val) / 22544384 = a.val; omega)
    | ⟨1, _⟩ => exact Fin.ext (by show ((a.val * 5504 + s.val) * 4096 + d.val) / 4096 % 5504 = s.val; omega)
    | ⟨2, _⟩ => exact Fin.ext (by show ((a.val * 5504 + s.val) * 4096 + d.val) / 128 % 32 = d.val / 128; omega)
  simp only [val_main_v28_apply, val_main_v24_apply, val_main_v27_apply, val_main_v23_apply, val_main_v26_apply, val_main_v22_apply,
    val_main_v21_apply, val_main_v20_apply, val_main_v19_apply, val_main_v18_apply, val_main_v17_apply, val_main_v25_apply,
    val_main_v16_apply, val_main_v15_apply, val_main_v14_apply, e, val_main_v13_apply, val_main_v12_apply, val_main_v11_apply,
    val_main_v10_apply, val_main_v9_apply, val_main_c_1_apply, val_main_c_2_apply, unpacked, val_main_v0_apply, val_main_cst_apply,
    val_main_cst_3_apply, val_main_cst_4_apply, val_main_cst_5_apply, val_main_cst_6_apply]
  unfold firstMoment
  rw [← nine, ← ten, ← one, ← fortynine]
  rfl

theorem second : val_main_v55 (F := Ideal) x1 x4 x5 x6 (ix3 a s d)
    = secondMoment (code (highOf d) (x4 (ix3 a s (byteOf d)))).toInt (x5 (ix2 a s)) (x6 (ix2 a d)) (x1 (ix3 a s d)) := by
  have e5 : idx_main_v38 (idx_main_v40 (ix3 a s d)) = ix2 a s := by
    funext k
    match k with
    | ⟨0, _⟩ => rfl
    | ⟨1, _⟩ => rfl
  have e6 : idx_main_v39 (idx_main_v41 (ix3 a s d)) = ix2 a d := by
    funext k
    match k with
    | ⟨0, _⟩ => rfl
    | ⟨1, _⟩ => rfl
  have eu : val_main_v36 (F := Ideal) x4 (ix3 a s d) = code (highOf d) (x4 (ix3 a s (byteOf d))) := unpacked x4 a s d
  simp only [val_main_v55_apply, val_main_v54_apply, val_main_v53_apply, val_main_v52_apply, val_main_v51_apply, val_main_v50_apply,
    val_main_v49_apply, val_main_v48_apply, val_main_v47_apply, val_main_v46_apply, val_main_v45_apply, val_main_v44_apply, val_main_v43_apply,
    val_main_v42_apply, val_main_v41_apply, val_main_v40_apply, val_main_v39_apply, val_main_v38_apply, e5, e6, val_main_v37_apply, eu,
    val_main_v0_apply, val_main_cst_9_apply, val_main_cst_10_apply, val_main_cst_11_apply, val_main_cst_12_apply, val_main_cst_13_apply,
    val_main_cst_14_apply]
  unfold secondMoment
  rw [← nineteen, ← twenty, ← one, ← sixteen]
  rfl

/-- The update of one number. -/
def elemU : EReal :=
  update (firstMoment (signedCode (highOf d) (x2 (ix3 a s (byteOf d)))) (x3 (ix3 a s (blockOf d))) (x1 (ix3 a s d)))
    (secondMoment (code (highOf d) (x4 (ix3 a s (byteOf d)))).toInt (x5 (ix2 a s)) (x6 (ix2 a d)) (x1 (ix3 a s d)))
    (correction (Ideal.ofBits .f32 0xBDD7C741#32) (x9 (ix1 a)).toInt) (correction (Ideal.ofBits .f32 0xBD5218EB#32) (x9 (ix1 a)).toInt)
    (Ideal.ofBits .f32 0x322BCC77#32)

theorem upd : val_main_v75 (F := Ideal) x1 x2 x3 x4 x5 x6 x9 (ix3 a s d) = elemU x1 x2 x4 x3 x5 x6 x9 a s d := by
  have e1 : idx_main_v57 (idx_main_v68 (ix3 a s d)) = ix1 a := by
    funext k
    match k with
    | ⟨0, _⟩ => rfl
  have e2 : idx_main_v57 (idx_main_v70 (ix3 a s d)) = ix1 a := by
    funext k
    match k with
    | ⟨0, _⟩ => rfl
  simp only [val_main_v75_apply, val_main_v74_apply, val_main_v73_apply, val_main_v72_apply, val_main_v71_apply, val_main_v70_apply,
    val_main_v69_apply, val_main_v68_apply, val_main_v65_apply, val_main_v64_apply, val_main_v63_apply, val_main_v62_apply,
    val_main_v61_apply, val_main_v60_apply, val_main_v59_apply, val_main_v58_apply, val_main_v57_apply, e1, e2, val_main_v56_apply,
    val_main_cst_15_apply, val_main_cst_16_apply, val_main_cst_17_apply, moment, second]
  rfl

theorem new : val_main_v84 (F := Ideal) x0 x1 x2 x3 x4 x5 x6 x9 x10 x11 (ix3 a s d)
    = weight (x0 (ix3 a s d)) (x10 (ix1 a)) (x11 (ix1 a)) (elemU x1 x2 x4 x3 x5 x6 x9 a s d) := by
  have e1 : idx_main_v66 (idx_main_v80 (ix3 a s d)) = ix1 a := by
    funext k
    match k with
    | ⟨0, _⟩ => rfl
  have e2 : idx_main_v67 (idx_main_v80 (ix3 a s d)) = ix1 a := by
    funext k
    match k with
    | ⟨0, _⟩ => rfl
  have e3 : idx_main_v66 (idx_main_v82 (ix3 a s d)) = ix1 a := by
    funext k
    match k with
    | ⟨0, _⟩ => rfl
  simp only [val_main_v84_apply, val_main_v83_apply, val_main_v82_apply, val_main_v81_apply, val_main_v80_apply, val_main_v79_apply,
    val_main_v78_apply, val_main_v77_apply, val_main_v76_apply, val_main_v67_apply, val_main_v66_apply, e1, e2, e3, val_main_cst_18_apply, upd]
  unfold weight
  rw [← one]
  rfl

/-- The row of all layers that a layer's row is. -/
def flatRow : Fin 16512 := ⟨5504 * a.val + s.val, by omega⟩

theorem result0 : val_main_v104 (F := Ideal) x0 x1 x2 x3 x4 x5 x6 x9 x10 x11 (ix2 (flatRow a s) d)
    = weight (x0 (ix3 a s d)) (x10 (ix1 a)) (x11 (ix1 a)) (elemU x1 x2 x4 x3 x5 x6 x9 a s d) := by
  have ha := a.isLt
  have hs := s.isLt
  have hd := d.isLt
  rw [val_main_v104_apply, show idx_main_v104 (ix2 (flatRow a s) d) = ix3 a s d from by
    funext k
    match k with
    | ⟨0, _⟩ => exact Fin.ext (by show ((5504 * a.val + s.val) * 4096 + d.val) / 22544384 = a.val; omega)
    | ⟨1, _⟩ => exact Fin.ext (by show ((5504 * a.val + s.val) * 4096 + d.val) / 4096 % 5504 = s.val; omega)
    | ⟨2, _⟩ => exact Fin.ext (by show ((5504 * a.val + s.val) * 4096 + d.val) % 4096 = d.val; omega), val_main_v103_apply]
  exact new x0 x1 x2 x4 x3 x5 x6 x9 x10 x11 a s d

theorem result1 : val_main_v106 (F := Ideal) x1 x2 x3 x4 x5 x6 x9 (ix2 (flatRow a s) d) = elemU x1 x2 x4 x3 x5 x6 x9 a s d := by
  have ha := a.isLt
  have hs := s.isLt
  have hd := d.isLt
  rw [val_main_v106_apply, show idx_main_v106 (ix2 (flatRow a s) d) = ix3 a s d from by
    funext k
    match k with
    | ⟨0, _⟩ => exact Fin.ext (by show ((5504 * a.val + s.val) * 4096 + d.val) / 22544384 = a.val; omega)
    | ⟨1, _⟩ => exact Fin.ext (by show ((5504 * a.val + s.val) * 4096 + d.val) / 4096 % 5504 = s.val; omega)
    | ⟨2, _⟩ => exact Fin.ext (by show ((5504 * a.val + s.val) * 4096 + d.val) % 4096 = d.val; omega), val_main_v105_apply]
  exact upd x1 x2 x4 x3 x5 x6 x9 a s d

theorem reduces_blocks : S3x5504x32x128.Reduces [3] S3x5504x32 := by decide

/-- The column a lane of a block is. -/
def column (q : Fin 32) (l : Fin 128) : Fin 4096 := ⟨128 * q.val + l.val, by omega⟩

/-- The size of a number. -/
def size (x : EReal) : EReal := max x (-x)

/-- The scale of a block: the largest size of its first moments. -/
def scaleOf (q : Fin 32) : EReal := Finset.univ.fold max ⊥ fun l : Fin 128 =>
  size (firstMoment (signedCode (highOf (column q l)) (x2 (ix3 a s (byteOf (column q l))))) (x3 (ix3 a s q)) (x1 (ix3 a s (column q l))))

theorem scale (q : Fin 32) : val_main_v87 (F := Ideal) x1 x2 x3 (ix3 a s q) = scaleOf x1 x2 x3 a s q := by
  unfold val_main_v87 val_main_cst_19
  rw [hostReduce_maximumf_eq_multiReduction (φ := .f32) _ 0xFF800000#32 _ _ reduces_blocks (.inl rfl) rfl]
  refine (Ideal.multiReduction_maximumf_single (s := S3x5504x32x128) (t := S3x5504x32) (a := 3) _ _ reduces_blocks _ _ _).trans ?_
  show Finset.univ.fold max (Ideal.ofBits .f32 0xFF800000#32) _ = _
  rw [bottom]
  congr 1
  funext (l : Fin 128)
  have hl := l.isLt
  show val_main_v86 (F := Ideal) x1 x2 x3 (reduces_blocks.lift (ix3 a s q) l) = _
  rw [show reduces_blocks.lift (ix3 a s q) l = ix4 a s q l from by
    funext k
    match k with
    | ⟨0, _⟩ => rfl
    | ⟨1, _⟩ => rfl
    | ⟨2, _⟩ => rfl
    | ⟨3, _⟩ => rfl, val_main_v86_apply, show idx_main_v86 (ix4 a s q l) = ix3 a s (column q l) from by
    funext k
    match k with
    | ⟨0, _⟩ => exact Fin.ext (by show (((a.val * 5504 + s.val) * 32 + q.val) * 128 + l.val) / 22544384 = a.val; omega)
    | ⟨1, _⟩ => exact Fin.ext (by show (((a.val * 5504 + s.val) * 32 + q.val) * 128 + l.val) / 4096 % 5504 = s.val; omega)
    | ⟨2, _⟩ => exact Fin.ext (by show (((a.val * 5504 + s.val) * 32 + q.val) * 128 + l.val) % 4096 = 128 * q.val + l.val; omega),
    val_main_v85_apply, moment]
  show size _ = size _
  rw [show blockOf (column q l) = q from Fin.ext (by show (128 * q.val + l.val) / 128 = q.val; omega)]

theorem result2 (q : Fin 32) : val_main_v120 (F := Ideal) x1 x2 x3 (ix2 (flatRow a s) q) = scaleOf x1 x2 x3 a s q := by
  have ha := a.isLt
  have hs := s.isLt
  have hq := q.isLt
  rw [val_main_v120_apply, show idx_main_v120 (ix2 (flatRow a s) q) = ix3 a s q from by
    funext k
    match k with
    | ⟨0, _⟩ => exact Fin.ext (by show ((5504 * a.val + s.val) * 32 + q.val) / 176128 = a.val; omega)
    | ⟨1, _⟩ => exact Fin.ext (by show ((5504 * a.val + s.val) * 32 + q.val) / 32 % 5504 = s.val; omega)
    | ⟨2, _⟩ => exact Fin.ext (by show ((5504 * a.val + s.val) * 32 + q.val) % 32 = q.val; omega)]
  exact scale x1 x2 x3 a s q

end Cert.ReferenceIdeal.Hand

end
-- ==== Proof.PointValues.lean ====
/-
  What a grid point computes, element by element, as the mathematics of the arguments.
-/
module

public import proofs.«01_k».proof.Proof.PointInputs
public import proofs.«01_k».proof.Proof.RefRead

@[expose] public section

set_option maxRecDepth 16384

noncomputable section

namespace Cert.MainIdeal.Hand

open Cert.MainIdeal Cert.MainIdeal.Gen
open Idealize.ShloMosaic Idealize.ShloMosaic.TcCoe
open Idealize.ShloMosaic.ValueIdx Cert.Scalars
open Cert.ReferenceIdeal.Hand (code highOf blockOf signedCode flatRow)
open Cert.ReferenceIdeal.Hand renaming byteOf → byteAt

/-- The kernel keeps a half of a byte in the upper four bits, so that it reads sixteen times the signed code. -/
theorem nib16_code : ∀ (hi : Bool) (b : BitVec 8), (nib16 hi b).toInt = 16 * signedCode hi b := by
  unfold nib16 signedCode code; decide +kernel

/-- The kernel adds one to a half of a byte. -/
theorem nib_code : ∀ (hi : Bool) (b : BitVec 8), (nib hi b + 1#8).toInt = (code hi b).toInt + 1 := by
  unfold nib code; decide +kernel

theorem nib_pos : ∀ (hi : Bool) (b : BitVec 8), 0 ≤ (nib hi b + 1#8).toInt := by
  unfold nib; decide +kernel

variable (m : (ℓ : Loc nD τ sig) → Buf (Elt Ideal) ℓ) (c : Dev nD) (t : Fin cfg0.N) (r : Fin 128) (d : Fin 4096)

/-- The weights, the gradients, the codes and scales of the first moments, the codes of the second moments and their
    rows' and columns' scales, the steps, the rates and the weight decays. -/
abbrev argW : S3x5504x4096.Idx → EReal := m ((c : Thread nD τ).loc main_arg0)
abbrev argG : S3x5504x4096.Idx → EReal := m ((c : Thread nD τ).loc main_arg1)
abbrev argM : S3x5504x2048.Idx → BitVec 8 := m ((c : Thread nD τ).loc main_arg2)
abbrev argMs : S3x5504x32.Idx → EReal := m ((c : Thread nD τ).loc main_arg3)
abbrev argV : S3x5504x2048.Idx → BitVec 8 := m ((c : Thread nD τ).loc main_arg4)
abbrev argR : S3x5504.Idx → EReal := m ((c : Thread nD τ).loc main_arg5)
abbrev argC : S3x4096.Idx → EReal := m ((c : Thread nD τ).loc main_arg6)
abbrev argT : S3.Idx → BitVec 32 := m ((c : Thread nD τ).loc main_arg9)
abbrev argLr : S3.Idx → EReal := m ((c : Thread nD τ).loc main_arg10)
abbrev argWd : S3.Idx → EReal := m ((c : Thread nD τ).loc main_arg11)

theorem g_point : ((point m c t).g (ix2 r d) : EReal) = argG m c (ix3 (layerAt t) (placeAt t r) d) := g_at m c t r d
theorem w_point : ((point m c t).w (ix2 r d) : EReal) = argW m c (ix3 (layerAt t) (placeAt t r) d) := w_at m c t r d
theorem mc_point (b : Fin 2048) : (point m c t).mc (ix2 r b) = argM m c (ix3 (layerAt t) (placeAt t r) b) := mc_at m c t r b
theorem vc_point (b : Fin 2048) : (point m c t).vc (ix2 r b) = argV m c (ix3 (layerAt t) (placeAt t r) b) := vc_at m c t r b
theorem ms_point (q : Fin 32) : ((point m c t).ms (ix2 r q) : EReal)
    = argMs m c (ix3 (layerAt t) (placeAt t r) q) * ((9 / 12544 : ℝ) : EReal) := by
  rw [← show iblk m c 6 t (ix2 r q) = argMs m c (ix3 (layerAt t) (placeAt t r) q) from ms_at m c t r q]
  exact scale_apply (iblk m c 6 t) r q
theorem lr_point : ((point m c t).lr : EReal) = argLr m c (ix1 (layerAt t)) := by
  show iblk m c 1 t (ix1 (Fin.ofNat 3 (layer (grid0.coords t)))) = _
  rw [layer_fin]
  exact lr_at m c t _
theorem dec_point : ((point m c t).dec : EReal) = ((1 : ℝ) : EReal) - argLr m c (ix1 (layerAt t)) * argWd m c (ix1 (layerAt t)) := by
  rw [← show iblk m c 1 t (ix1 (layerAt t)) = argLr m c (ix1 (layerAt t)) from lr_at m c t _,
    ← show iblk m c 2 t (ix1 (layerAt t)) = argWd m c (ix1 (layerAt t)) from wd_at m c t _, ← layer_fin]
  exact decay_eq _ _
theorem step_point : iblk m c 0 t (ix1 (Fin.ofNat 3 (layer (grid0.coords t)))) = argT m c (ix1 (layerAt t)) := by
  rw [layer_fin]
  exact st_at m c t _

/-- The first moment of an element. -/
theorem moment_point : elemM (point m c t) r d * ((1 / 10 : ℝ) : EReal)
    = firstMoment (signedCode (highOf d) (argM m c (ix3 (layerAt t) (placeAt t r) (byteAt d))))
        (argMs m c (ix3 (layerAt t) (placeAt t r) (blockOf d))) (argG m c (ix3 (layerAt t) (placeAt t r) d)) := by
  unfold elemM
  rw [g_point, mc_point, ms_point]
  exact firstMoment_eq _ _ (nib16_code _ _) _ _

/-- The row's scale, grown. -/
theorem row_point (l : Fin 128) : ((point m c t).rn (ix2 r l) : EReal)
    = argR m c (ix2 (layerAt t) (placeAt t r)) * ((19 / 16 : ℝ) : EReal) := by
  show (rowTable (F := Ideal) (grid0.coords t) (cut 3 128 (iblk m c 8 t) 0 (128 * chunk (grid0.coords t))) (ix2 r l) : EReal) = _
  rw [row_apply, layer_fin, cut_at (iblk m c 8 t) 0 _ (layerAt t) r (layerAt t) (placeAt t r) (Nat.zero_add _).symm
    (by show 128 * (t.val % 43) + r.val = 128 * chunk (grid0.coords t) + r.val; rw [chunk_eq]), vr_at]

/-- The column's scale, grown. -/
theorem col_point (j : Fin 8) : ((point m c t).cn (ix2 j d) : EReal) = argC m c (ix2 (layerAt t) d) * ((19 / 16 : ℝ) : EReal) := by
  show (k0_pay751 (F := Ideal) (cut 1 4096 (iblk m c 9 t) (layer (grid0.coords t)) 0) (ix2 j d) : EReal) = _
  rw [col_apply, cut_at (iblk m c 9 t) _ 0 (0 : Fin 1) d (layerAt t) d
    (by show t.val / 43 = layer (grid0.coords t) + 0; rw [layer_eq, Nat.add_zero]) (Nat.zero_add _).symm, vl_at]

/-- The second moment of an element, twenty times. -/
theorem second_terms : elemA (point m c t) r d = argG m c (ix3 (layerAt t) (placeAt t r) d) * argG m c (ix3 (layerAt t) (placeAt t r) d)
    + (((nib (highOf d) (argV m c (ix3 (layerAt t) (placeAt t r) (byteAt d))) + 1#8).toInt : ℝ) : EReal)
      * min (argR m c (ix2 (layerAt t) (placeAt t r)) * ((19 / 16 : ℝ) : EReal)) (argC m c (ix2 (layerAt t) d) * ((19 / 16 : ℝ) : EReal)) := by
  unfold elemA
  rw [row_point, col_point]
  rw [g_point, vc_point]
  rfl

/-- The second moment of an element. -/
theorem second_point : elemA (point m c t) r d * ((1 / 20 : ℝ) : EReal)
    = secondMoment (code (highOf d) (argV m c (ix3 (layerAt t) (placeAt t r) (byteAt d)))).toInt
        (argR m c (ix2 (layerAt t) (placeAt t r))) (argC m c (ix2 (layerAt t) d)) (argG m c (ix3 (layerAt t) (placeAt t r) d)) := by
  rw [second_terms]
  exact secondMoment_eq _ _ (nib_code _ _) _ _ _

/-- The weight of an element after the update. -/
theorem weight_point : elemP (point m c t) r d = weight (argW m c (ix3 (layerAt t) (placeAt t r) d)) (argLr m c (ix1 (layerAt t)))
    (argWd m c (ix1 (layerAt t))) (elemU (point m c t) r d) := by
  unfold elemP
  rw [w_point, lr_point, dec_point]
  exact weight_eq _ _ _ _

/-- The largest size of the first moments of a row in a block. -/
theorem scale_point (q : Fin 32) : (outS (point m c t) (ix2 r q) : EReal)
    = Finset.univ.fold max ⊥ fun l : Fin 128 => Cert.ReferenceIdeal.Hand.size
        (firstMoment (signedCode (highOf (column q l)) (argM m c (ix3 (layerAt t) (placeAt t r) (byteAt (column q l)))))
          (argMs m c (ix3 (layerAt t) (placeAt t r) q)) (argG m c (ix3 (layerAt t) (placeAt t r) (column q l)))) := by
  rw [outS_apply, fold_scaled (by norm_num)]
  congr 1
  funext l
  rw [← size_scaled (by norm_num), moment_point, show blockOf (column q l) = q from
    Fin.ext (by show (128 * q.val + l.val) / 128 = q.val; have := l.isLt; omega)]
  rfl

variable (hr : ∀ i, 0 ≤ argR m c i) (hc : ∀ i, 0 ≤ argC m c i) (ht : ∀ i, 1 ≤ (argT m c i).toInt)

include hr hc in
theorem second_nonneg : 0 ≤ elemA (point m c t) r d := by
  rw [second_terms]
  have hk : (0 : EReal) ≤ ((19 / 16 : ℝ) : EReal) := by exact_mod_cast (by norm_num : (0 : ℝ) ≤ 19 / 16)
  refine add_nonneg ?_ (mul_nonneg ?_ (le_min (mul_nonneg (hr _) hk) (mul_nonneg (hc _) hk)))
  · rcases le_total 0 (argG m c (ix3 (layerAt t) (placeAt t r) d)) with h | h
    · exact mul_nonneg h h
    · have h' := EReal.neg_le_neg_iff.mpr h
      rw [neg_zero] at h'
      rw [← neg_neg (argG m c _), EReal.neg_mul, mul_comm, EReal.neg_mul, neg_neg]
      exact mul_nonneg h' h'
  · exact_mod_cast nib_pos _ _

include hr hc ht in
/-- The update of an element. -/
theorem update_point : elemU (point m c t) r d
    = Cert.ReferenceIdeal.Hand.elemU (argG m c) (argM m c) (argV m c) (argMs m c) (argR m c) (argC m c) (argT m c)
        (layerAt t) (placeAt t r) d := by
  obtain ⟨ε, hε, eε⟩ := guard
  obtain ⟨l₁, hl₁, el₁⟩ := log₁
  obtain ⟨l₂, hl₂, el₂⟩ := log₂
  obtain ⟨b₁, hb₁, ec₁, ek₁⟩ := correction_eq l₁ hl₁ (argT m c (ix1 (layerAt t))).toInt (ht _)
  obtain ⟨b₂, hb₂, ec₂, ek₂⟩ := correction_eq l₂ hl₂ (argT m c (ix1 (layerAt t))).toInt (ht _)
  unfold elemU Cert.ReferenceIdeal.Hand.elemU
  rw [← moment_point, ← second_point, el₁, el₂, ec₁, ec₂, eε]
  rw [← el₁] at ek₁
  rw [← el₂] at ek₂
  rw [← update_eq (elemM (point m c t) r d) (elemA (point m c t) r d) (second_nonneg m c t r d hr hc) hb₁ hb₂ hε]
  rw [show (point m c t).e (ix3 (0 : Fin 1) (⟨r.val % 8, by omega⟩ : Fin 8) (colLane d)) = _ from
      (congrArg (fun b => k0_pay761 (F := Ideal) b _) (step_point m c t)).trans (guard_apply _ ek₂ _ _),
    show (point m c t).k (ix3 (0 : Fin 1) (⟨r.val % 8, by omega⟩ : Fin 8) (colLane d)) = _ from
      (congrArg (fun b => k0_pay762 (F := Ideal) b _) (step_point m c t)).trans (factor_apply _ ek₁ ek₂ _ _), eε, EReal.coe_one]

end Cert.MainIdeal.Hand

end
-- ==== Proof.CodeScalars.lean ====
/-
  The four-bit code of one first moment, as extended reals: how the plain formula writes it, and that the kernel's factored
  form is the same code.
-/
module

public import proofs.«01_k».proof.Proof.Scalars

@[expose] public section

noncomputable section

namespace Cert.Scalars

open Idealize.ShloMosaic

/-- The number a block is divided by: its scale, or one where the scale is zero. -/
def divisor (s : EReal) : EReal := if s = 0 then ((1 : ℝ) : EReal) else s

/-- Seven signed square roots. -/
def signedRoot (r : EReal) : EReal := ((7 : ℝ) : EReal) * Ideal.sign r * Ideal.sqrt (max r (-r))

/-- The code of a first moment in a block of scale `s`, as a word. -/
def codeWord (m s : EReal) : BitVec 32 :=
  Ideal.fptosi 32 (min (((7 : ℤ) : ℝ) : EReal) (max (((-7 : ℤ) : ℝ) : EReal)
    (Ideal.liftRound Ideal.roundHalfEven (signedRoot (Ideal.div m (divisor s))))))

/-- The kernel's form of the seven signed square roots. -/
def factoredRoot (M S : EReal) : EReal :=
  M * Ideal.rsqrt (max (max M (-M)) ⊥) * (((7 : ℝ) : EReal) * Ideal.rsqrt (max S ⊥))

theorem seven : Ideal.ofBits .f32 0x40E00000#32 = ((7 : ℝ) : EReal) := by simp [Ideal.ofBits, Ideal.ieee, -EReal.coe_mul]; norm_num
theorem minus_seven : Ideal.ofBits .f32 0xC0E00000#32 = ((-7 : ℝ) : EReal) := by
  simp [Ideal.ofBits, Ideal.ieee, -EReal.coe_mul, -EReal.coe_neg]; norm_num
theorem rounding : Ideal.ofBits .f32 0x4B400000#32 = ((12582912 : ℝ) : EReal) := by
  simp [Ideal.ofBits, Ideal.ieee, -EReal.coe_mul]

theorem size_real (x : ℝ) : max (x : EReal) (-(x : EReal)) = ((|x| : ℝ) : EReal) := by
  exact (EReal.coe_strictMono.monotone.map_max (a := x) (b := -x)).symm

theorem signedRoot_zero : signedRoot 0 = 0 := by
  unfold signedRoot
  rw [← EReal.coe_zero, Ideal.sign_coe, sign_zero]
  simp

theorem div_of_ne {x y : EReal} (h : y ≠ 0) : Ideal.div x y = x * y⁻¹ := by unfold Ideal.div; rw [if_neg h]

theorem root_core {M s : ℝ} (hM : M ≠ 0) (h : |M| ≤ s) :
    M * (Real.sqrt |M|)⁻¹ * (7 * (Real.sqrt s)⁻¹) = 7 * ((SignType.sign (M / s) : SignType) : ℝ) * Real.sqrt |M / s| ∧
      |M * (Real.sqrt |M|)⁻¹ * (7 * (Real.sqrt s)⁻¹)| ≤ 7 := by
  have ha : 0 < |M| := abs_pos.mpr hM
  have hs : 0 < s := lt_of_lt_of_le ha h
  have hra : 0 < Real.sqrt |M| := Real.sqrt_pos.mpr ha
  have hrs : 0 < Real.sqrt s := Real.sqrt_pos.mpr hs
  have hsq : Real.sqrt |M| * Real.sqrt |M| = |M| := Real.mul_self_sqrt ha.le
  have hle : Real.sqrt |M| ≤ Real.sqrt s := Real.sqrt_le_sqrt h
  have e : Real.sqrt |M / s| = Real.sqrt |M| / Real.sqrt s := by rw [abs_div, abs_of_pos hs, Real.sqrt_div ha.le]
  have hq : Real.sqrt |M| / Real.sqrt s ≤ 1 := (div_le_one hrs).mpr hle
  have hq0 : 0 ≤ Real.sqrt |M| / Real.sqrt s := (div_pos hra hrs).le
  rw [e]
  rcases lt_or_gt_of_ne hM with hn | hp
  · have hM' : M = -(Real.sqrt |M| * Real.sqrt |M|) := by rw [hsq, abs_of_neg hn, neg_neg]
    have key : M * (Real.sqrt |M|)⁻¹ * (7 * (Real.sqrt s)⁻¹) = -7 * (Real.sqrt |M| / Real.sqrt s) := by
      generalize Real.sqrt |M| = q at *
      rw [hM']; field_simp
    rw [key, sign_neg (div_neg_of_neg_of_pos hn hs)]
    refine ⟨by simp, ?_⟩
    rw [abs_le]; constructor <;> linarith
  · have hM' : M = Real.sqrt |M| * Real.sqrt |M| := by rw [hsq, abs_of_pos hp]
    have key : M * (Real.sqrt |M|)⁻¹ * (7 * (Real.sqrt s)⁻¹) = 7 * (Real.sqrt |M| / Real.sqrt s) := by
      generalize Real.sqrt |M| = q at *
      rw [hM']; field_simp
    rw [key, sign_pos (div_pos hp hs)]
    refine ⟨by simp, ?_⟩
    rw [abs_le]; constructor <;> linarith

theorem divisor_ne (s : EReal) : divisor s ≠ 0 := by
  unfold divisor
  split
  · exact EReal.coe_ne_zero.mpr one_ne_zero
  · assumption

/-- Where the roots are zero on both sides. -/
theorem root_zero {M S r : EReal} (h₁ : factoredRoot M S = 0) (h₂ : r = 0) :
    ∃ x : ℝ, |x| ≤ 7 ∧ factoredRoot M S = (x : EReal) ∧ signedRoot r = (x : EReal) :=
  ⟨0, by norm_num, by rw [h₁, EReal.coe_zero], by rw [h₂, signedRoot_zero, EReal.coe_zero]⟩

theorem root_eq (M S : EReal) (h : max M (-M) ≤ S) :
    ∃ x : ℝ, |x| ≤ 7 ∧ factoredRoot M S = (x : EReal)
      ∧ signedRoot (Ideal.div (M * ((1 / 10 : ℝ) : EReal)) (divisor (S * ((1 / 10 : ℝ) : EReal)))) = (x : EReal) := by
  have tenth : (0 : ℝ) < 1 / 10 := by norm_num
  by_cases hS : S = ⊤
  · subst hS
    refine root_zero ?_ ?_
    · unfold factoredRoot
      rw [max_eq_left (a := (⊤ : EReal)) bot_le, Ideal.rsqrt_top, mul_zero, mul_zero]
    · rw [EReal.top_mul_coe_of_pos tenth]
      have : divisor ⊤ = ⊤ := if_neg (by simp)
      rw [this, div_of_ne (by simp), EReal.inv_top, mul_zero]
  · induction M with
    | bot => simp at h; exact absurd h hS
    | top => simp at h; exact absurd h hS
    | coe M =>
      rw [size_real] at h
      induction S with
      | bot => simp at h
      | top => exact absurd rfl hS
      | coe s =>
        have h' : |M| ≤ s := by exact_mod_cast h
        by_cases hM : M = 0
        · subst hM
          refine root_zero ?_ ?_
          · unfold factoredRoot
            rw [EReal.coe_zero, zero_mul, zero_mul]
          · rw [EReal.coe_zero, zero_mul, div_of_ne (divisor_ne _), zero_mul]
        · obtain ⟨e, b⟩ := root_core hM h'
          have ha : 0 < |M| := abs_pos.mpr hM
          have hs : 0 < s := lt_of_lt_of_le ha h'
          refine ⟨_, b, ?_, ?_⟩
          · unfold factoredRoot
            rw [size_real, max_eq_left bot_le, max_eq_left bot_le, Ideal.rsqrt_coe, Ideal.rsqrt_coe, if_neg (not_lt.mpr ha.le),
              if_neg ha.ne', if_neg (not_lt.mpr hs.le), if_neg hs.ne']
            norm_cast
          · have hs' : s * (1 / 10) ≠ 0 := by positivity
            have d : divisor (((s * (1 / 10) : ℝ)) : EReal) = ((s * (1 / 10) : ℝ) : EReal) :=
              if_neg (by exact_mod_cast hs')
            rw [← EReal.coe_mul, ← EReal.coe_mul, d, div_real _ hs', ← EReal.coe_mul, e,
              show M * (1 / 10) * (1 / (s * (1 / 10))) = M / s by field_simp]
            unfold signedRoot
            rw [size_real, Ideal.sign_coe, Ideal.sqrt_coe, if_neg (not_lt.mpr (abs_nonneg _))]
            norm_cast

theorem rounded_mem {x : ℝ} (h : |x| ≤ 7) : -7 ≤ Ideal.roundHalfEven x ∧ Ideal.roundHalfEven x ≤ 7 := by
  obtain ⟨h₁, h₂⟩ := abs_le.mp h
  have f₁ : (-7 : ℤ) ≤ ⌊x⌋ := Int.le_floor.mpr (by exact_mod_cast h₁)
  have f₂ : ⌊x⌋ ≤ (7 : ℤ) := by
    have := (Int.floor_le x).trans h₂
    exact_mod_cast this
  have hx := Int.lt_floor_add_one x
  have hf : ⌊x⌋ = 7 → x - (⌊x⌋ : ℝ) < 1 / 2 := fun e => by rw [e]; push_cast; linarith
  unfold Ideal.roundHalfEven
  by_cases e : ⌊x⌋ = 7
  · simp only []
    rw [if_pos (hf e)]
    omega
  · simp only []
    split_ifs <;> omega

/-- The kernel's code of a first moment is the plain formula's. -/
theorem code_eq (M S : EReal) (h : max M (-M) ≤ S) :
    Ideal.fptosi 32 (Ideal.liftRound Ideal.roundHalfEven (min ((7 : ℝ) : EReal) (max ((-7 : ℝ) : EReal) (factoredRoot M S))
        + ((12582912 : ℝ) : EReal) - ((12582912 : ℝ) : EReal)))
      = codeWord (M * ((1 / 10 : ℝ) : EReal)) (S * ((1 / 10 : ℝ) : EReal)) := by
  obtain ⟨x, hx, e₁, e₂⟩ := root_eq M S h
  obtain ⟨r₁, r₂⟩ := rounded_mem hx
  obtain ⟨h₁, h₂⟩ := abs_le.mp hx
  unfold codeWord
  rw [e₁, e₂, max_eq_right (by exact_mod_cast h₁), min_eq_right (by exact_mod_cast h₂), ← EReal.coe_add, ← EReal.coe_sub,
    add_sub_cancel_right, Ideal.liftRound_coe, max_eq_right (by exact_mod_cast r₁), min_eq_right (by exact_mod_cast r₂)]

end Cert.Scalars

end
-- ==== Proof.RefCodes.lean ====
/- What the reference leaves in a byte of the packed codes of the first moments. -/
module

public import proofs.«01_k».proof.Proof.RefRead
public import proofs.«01_k».proof.Proof.CodeScalars

@[expose] public section

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx Cert.Scalars

variable (x1 : S3x5504x4096.Idx → EReal) (x2 : S3x5504x2048.Idx → BitVec 8) (x3 : S3x5504x32.Idx → EReal)
  (a : Fin 3) (s : Fin 5504) (d : Fin 4096)

/-- The code of an element's first moment. -/
def elemCode : BitVec 32 :=
  codeWord (firstMoment (signedCode (highOf d) (x2 (ix3 a s (byteOf d)))) (x3 (ix3 a s (blockOf d))) (x1 (ix3 a s d)))
    (scaleOf x1 x2 x3 a s (blockOf d))

/-- The divisor of a block. -/
theorem divides (q : Fin 32) : val_main_v90 (F := Ideal) x1 x2 x3 (ix3 a s q) = divisor (scaleOf x1 x2 x3 a s q) := by
  rw [val_main_v90_apply, val_main_v89_apply, val_main_v88_apply, val_main_cst_20_apply, val_main_call0_v1_apply, val_main_call0_v0_apply,
    val_main_cst_21_apply, scale]
  unfold divisor
  show Scalar.select (BitVec.ofBool (decide (scaleOf x1 x2 x3 a s q = Ideal.ofBits .f32 0x00000000#32))) (Ideal.ofBits .f32 0x3F800000#32) _ = _
  rw [Ideal.ofBits_zero_f32, one]
  by_cases h : scaleOf x1 x2 x3 a s q = 0
  · rw [if_pos h, decide_eq_true h]; rfl
  · rw [if_neg h, decide_eq_false h]; rfl

/-- The code of an element. -/
theorem coded : val_main_v107 (F := Ideal) x1 x2 x3 (ix3 a s d) = elemCode x1 x2 x3 a s d := by
  have ha := a.isLt
  have hs := s.isLt
  have hd := d.isLt
  have e : idx_main_v91 (idx_main_v92 (idx_main_v93 (ix3 a s d))) = ix3 a s (blockOf d) := by
    funext k
    match k with
    | ⟨0, _⟩ => exact Fin.ext (by show ((a.val * 5504 + s.val) * 4096 + d.val) / 22544384 = a.val; omega)
    | ⟨1, _⟩ => exact Fin.ext (by show ((a.val * 5504 + s.val) * 4096 + d.val) / 4096 % 5504 = s.val; omega)
    | ⟨2, _⟩ => exact Fin.ext (by show ((a.val * 5504 + s.val) * 4096 + d.val) / 128 % 32 = d.val / 128; omega)
  have e7 : val_main_v94 (F := Ideal) x1 x2 x3 (ix3 a s d)
      = Ideal.div (firstMoment (signedCode (highOf d) (x2 (ix3 a s (byteOf d)))) (x3 (ix3 a s (blockOf d))) (x1 (ix3 a s d)))
          (divisor (scaleOf x1 x2 x3 a s (blockOf d))) := by
    rw [val_main_v94_apply, val_main_v93_apply, val_main_v92_apply, val_main_v91_apply, e, divides, moment]
    rfl
  rw [val_main_v107_apply, val_main_v102_apply, val_main_call2_v4_apply, val_main_call2_v3_apply, val_main_c_24_apply,
    val_main_call2_v2_apply, val_main_call2_v1_apply, val_main_call2_v0_apply, val_main_c_23_apply, val_main_v101_apply, val_main_v100_apply,
    val_main_v97_apply, val_main_v96_apply, val_main_cst_22_apply, val_main_v95_apply, val_main_v99_apply, val_main_v98_apply, e7]
  unfold elemCode codeWord signedRoot
  rw [← seven]
  rfl

/-- The column whose code a byte holds in its low half (`false`) or its high half. -/
def codeColumn (hi : Bool) (y : Fin 2048) : Fin 4096 := ⟨y.val / 64 * 128 + (if hi then 64 else 0) + y.val % 64, by split <;> omega⟩

/-- Two codes in one byte. -/
def packed (lo hi : BitVec 32) : BitVec 8 := ((lo &&& 15#32) ||| ((hi &&& 15#32) <<< 4)).setWidth 8

/-- One half of a block's codes. -/
theorem squeezed (Y : Fin 32) (L : Fin 64) : idx_main_v112 (ix4 a s Y L) = ix5 a s Y (0 : Fin 1) L := by
  have ha := a.isLt
  have hs := s.isLt
  have hY := Y.isLt
  have hL := L.isLt
  funext k
  match k with
  | ⟨0, _⟩ => exact Fin.ext (by show (((a.val * 5504 + s.val) * 32 + Y.val) * 64 + L.val) / 11272192 = a.val; omega)
  | ⟨1, _⟩ => exact Fin.ext (by show (((a.val * 5504 + s.val) * 32 + Y.val) * 64 + L.val) / 2048 % 5504 = s.val; omega)
  | ⟨2, _⟩ => exact Fin.ext (by show (((a.val * 5504 + s.val) * 32 + Y.val) * 64 + L.val) / 64 % 32 = Y.val; omega)
  | ⟨3, _⟩ => rfl
  | ⟨4, _⟩ => exact Fin.ext (by show (((a.val * 5504 + s.val) * 32 + Y.val) * 64 + L.val) % 64 = L.val; omega)

theorem split_column (Y : Fin 32) (H : Fin 2) (L : Fin 64) :
    idx_main_v110 (ix5 a s Y H L) = ix3 a s (⟨128 * Y.val + 64 * H.val + L.val, by omega⟩ : Fin 4096) := by
  have ha := a.isLt
  have hs := s.isLt
  have hY := Y.isLt
  have hH := H.isLt
  have hL := L.isLt
  funext k
  match k with
  | ⟨0, _⟩ => exact Fin.ext (by show ((((a.val * 5504 + s.val) * 32 + Y.val) * 2 + H.val) * 64 + L.val) / 22544384 = a.val; omega)
  | ⟨1, _⟩ => exact Fin.ext (by show ((((a.val * 5504 + s.val) * 32 + Y.val) * 2 + H.val) * 64 + L.val) / 4096 % 5504 = s.val; omega)
  | ⟨2, _⟩ => exact Fin.ext (by
      show ((((a.val * 5504 + s.val) * 32 + Y.val) * 2 + H.val) * 64 + L.val) % 4096 = 128 * Y.val + 64 * H.val + L.val; omega)

theorem result3 (y : Fin 2048) : val_main_v119 (F := Ideal) x1 x2 x3 (ix2 (flatRow a s) y)
    = packed (elemCode x1 x2 x3 a s (codeColumn false y)) (elemCode x1 x2 x3 a s (codeColumn true y)) := by
  have ha := a.isLt
  have hs := s.isLt
  have hy := y.isLt
  have e : idx_main_v119 (ix2 (flatRow a s) y) = ix4 a s (⟨y.val / 64, by omega⟩ : Fin 32) (⟨y.val % 64, by omega⟩ : Fin 64) := by
    funext k
    match k with
    | ⟨0, _⟩ => exact Fin.ext (by show ((5504 * a.val + s.val) * 2048 + y.val) / 11272192 = a.val; omega)
    | ⟨1, _⟩ => exact Fin.ext (by show ((5504 * a.val + s.val) * 2048 + y.val) / 2048 % 5504 = s.val; omega)
    | ⟨2, _⟩ => exact Fin.ext (by show ((5504 * a.val + s.val) * 2048 + y.val) / 64 % 32 = y.val / 64; omega)
    | ⟨3, _⟩ => exact Fin.ext (by show ((5504 * a.val + s.val) * 2048 + y.val) % 64 = y.val % 64; omega)
  generalize hY : (⟨y.val / 64, by omega⟩ : Fin 32) = Y at e
  generalize hL : (⟨y.val % 64, by omega⟩ : Fin 64) = L at e
  have vY : y.val / 64 = Y.val := congrArg Fin.val hY
  have vL : y.val % 64 = L.val := congrArg Fin.val hL
  have e0 : idx_main_v111 (ix5 a s Y (0 : Fin 1) L) = ix5 a s Y (0 : Fin 2) L := by
    funext k
    match k with
    | ⟨0, _⟩ => rfl
    | ⟨1, _⟩ => rfl
    | ⟨2, _⟩ => rfl
    | ⟨3, _⟩ => rfl
    | ⟨4, _⟩ => rfl
  have e1 : idx_main_v113 (ix5 a s Y (0 : Fin 1) L) = ix5 a s Y (1 : Fin 2) L := by
    funext k
    match k with
    | ⟨0, _⟩ => rfl
    | ⟨1, _⟩ => rfl
    | ⟨2, _⟩ => rfl
    | ⟨3, _⟩ => rfl
    | ⟨4, _⟩ => rfl
  have sq : idx_main_v114 (ix4 a s Y L) = ix5 a s Y (0 : Fin 1) L := squeezed a s Y L
  have c0 : (⟨128 * Y.val + 64 * (0 : Fin 2).val + L.val, by omega⟩ : Fin 4096) = codeColumn false y :=
    Fin.ext (by show 128 * Y.val + 64 * 0 + L.val = y.val / 64 * 128 + 0 + y.val % 64; omega)
  have c1 : (⟨128 * Y.val + 64 * (1 : Fin 2).val + L.val, by omega⟩ : Fin 4096) = codeColumn true y :=
    Fin.ext (by show 128 * Y.val + 64 * 1 + L.val = y.val / 64 * 128 + 64 + y.val % 64; omega)
  rw [val_main_v119_apply, e, val_main_v118_apply, val_main_v117_apply, val_main_v112_apply, val_main_v111_apply, squeezed, e0,
    val_main_v110_apply, split_column, val_main_v109_apply, coded, val_main_v108_apply, val_main_c_25_apply, val_main_v116_apply,
    val_main_v114_apply, val_main_v113_apply, sq, e1, val_main_v110_apply, split_column, val_main_v109_apply, coded,
    val_main_v108_apply, val_main_c_25_apply, val_main_v115_apply, val_main_c_26_apply, c0, c1]
  rfl

end Cert.ReferenceIdeal.Hand

end
-- ==== Proof.PointPacks.lean ====
/-
  How the kernel packs two blocks of codes in one block of bytes: each byte holds the low four bits of two words of one
  block, half the lanes apart.
-/
module

public import proofs.«01_k».proof.Proof.PointCodes
public import proofs.«01_k».proof.Proof.RefCodes

@[expose] public section

set_option maxRecDepth 16384

noncomputable section

namespace Cert.MainIdeal.Hand

open Cert.MainIdeal Cert.MainIdeal.Gen
open Idealize.ShloMosaic Idealize.ShloMosaic.TcCoe
open Idealize.ShloMosaic.ValueIdx
open Cert.ReferenceIdeal.Hand (packed)

/-- The rounding constant leaves a word's low byte alone. -/
theorem low_byte (x : BitVec 32) : (x + 1262485504#32).setWidth 8 = x.setWidth 8 := by
  rw [BitVec.setWidth_add _ _ (by decide), show (1262485504#32 : BitVec 32).setWidth 8 = 0#8 by decide, BitVec.add_zero]

/-- Packing the low bytes of two words. -/
theorem packed_bytes (lo hi : BitVec 32) : (lo.setWidth 8 &&& 15#8) ||| hi.setWidth 8 <<< 4 = packed lo hi := by
  unfold packed
  apply BitVec.eq_of_getLsbD_eq; intro q hq
  have : q < 8 := hq
  simp only [BitVec.getLsbD_and, BitVec.getLsbD_or, BitVec.getLsbD_shiftLeft, BitVec.getLsbD_setWidth]
  interval_cases q <;> simp

/-- The lane of the low and of the high code of a byte's lane. -/
def lowLane (l : Fin 128) : Fin 128 := ⟨l.val % 64, by omega⟩
def highLane (l : Fin 128) : Fin 128 := ⟨64 + l.val % 64, by omega⟩

theorem low_words (z : IVec S32x128 32) (r : Fin 32) (l : Fin 128) :
    byteOf (bitcast S8x128 32 (trunci 8 z natLt_8_32) bitcasts_S32x128_w8_S8x128_w32 (ix2 ⟨r.val / 4, by omega⟩ l)) (r.val % 4)
      = (z (ix2 r l)).setWidth 8 :=
  byteOf_words_row (trunci 8 z natLt_8_32) bitcasts_S32x128_w8_S8x128_w32 r l

theorem turn_at (w : IVec S8x128 32) (a : Fin 8) (l : Fin 128) : turn w (ix2 a l) = w (ix2 a ⟨(l.val + 64) % 128, by omega⟩) := by
  unfold turn
  rw [turn_apply]

/-- A byte of two packed blocks. -/
theorem packBlock_apply (z₀ z₁ : IVec S32x128 32) (r : Fin 32) (l : Fin 128) :
    packBlock z₀ z₁ (ix2 r l) = packed ((if l.val < 64 then z₀ else z₁) (ix2 r (lowLane l)))
      ((if l.val < 64 then z₀ else z₁) (ix2 r (highLane l))) := by
  have hr : r.val % 4 < 4 := by omega
  have hl := l.isLt
  unfold packBlock
  rw [bytes_apply, pick, ← packed_bytes]
  by_cases h : l.val < 64
  · have e₁ : lowLane l = l := Fin.ext (by show l.val % 64 = l.val; omega)
    have e₂ : (⟨(l.val + 64) % 128, by omega⟩ : Fin 128) = highLane l := Fin.ext (by show (l.val + 64) % 128 = 64 + l.val % 64; omega)
    rw [if_pos h, if_pos h, ← low_words, ← low_words, e₁]
    show byteOf (nibbles z₀ _ ||| shli (turn (nibbles z₀)) _ _) _ = _
    rw [shl4, turn_at, e₂]
    exact byteOf_join _ _ _ hr
  · have e₁ : (⟨(l.val + 64) % 128, by omega⟩ : Fin 128) = lowLane l := Fin.ext (by show (l.val + 64) % 128 = l.val % 64; omega)
    have e₂ : highLane l = l := Fin.ext (by show 64 + l.val % 64 = l.val; omega)
    rw [if_neg h, if_neg h, ← low_words, ← low_words, e₂]
    show byteOf (turn (nibbles z₁) _ ||| shli (nibbles z₁) _ _) _ = _
    rw [shl4, turn_at, e₁]
    exact byteOf_join _ _ _ hr

end Cert.MainIdeal.Hand

end
-- ==== Proof.PointPacked.lean ====
/-
  The packed codes of the first moments a grid point leaves, byte by byte, as the codes of the plain formula.
-/
module

public import proofs.«01_k».proof.Proof.PointTables
public import proofs.«01_k».proof.Proof.PointPacks

@[expose] public section

set_option maxRecDepth 16384

noncomputable section

namespace Cert.MainIdeal.Hand

open Cert.MainIdeal Cert.MainIdeal.Gen
open Idealize.ShloMosaic Idealize.ShloMosaic.TcCoe
open Idealize.ShloMosaic.ValueIdx Cert.Scalars
open Cert.ReferenceIdeal.Hand (packed codeColumn)

theorem named_tiny : (Named.named κ "tiny" 0x00800000#32 : Ideal .f32) = (⊥ : EReal) :=
  IdealRules.named_const.ideal_named_scalar _ _ _ _ rfl

/-- The largest size of the ten first moments of a row in a block. -/
def largest (L : Loads Ideal) (r : Fin 128) (q : Fin 32) : EReal :=
  Finset.univ.fold max ⊥ fun l : Fin 128 => max (elemM L r (column q l)) (-(elemM L r (column q l)))

/-- The code of an element as the kernel computes it. -/
def kernelCode (L : Loads Ideal) (r : Fin 128) (q : Fin 32) (l : Fin 128) : BitVec 32 :=
  codeWord (elemM L r (column q l) * ((1 / 10 : ℝ) : EReal)) (largest L r q * ((1 / 10 : ℝ) : EReal))

theorem le_largest (L : Loads Ideal) (r : Fin 128) (q : Fin 32) (l : Fin 128) :
    max (elemM L r (column q l)) (-(elemM L r (column q l))) ≤ largest L r q :=
  (Finset.le_fold_max _).mpr (.inr ⟨l, Finset.mem_univ _, le_rfl⟩)

section
variable (L : Loads Ideal) (k : ℕ) (q : Fin 32) (i : Fin 4) (j : Fin 8) (r : Fin 128) (hr : r.val = 32 * k + (8 * i.val + j.val))
include hr

theorem mMax_at : mMax (L.m k q.val) (ix3 i j (0 : Fin 1)) = largest L r q := by
  unfold mMax
  rw [shapeCast_apply _ _ _ (ix2 i j) (by
    rw [Shape.rowMajor_val_three, Shape.rowMajor_val_two]; show i.val * 8 + j.val = (i.val * 8 + j.val) * 1 + 0; omega)]
  refine (Ideal.multiReduction_maximumf_single (s := S4x8x128) (t := S4x8) (a := 2) _ _ reduces_S4x8x128_S4x8 _ _ _).trans ?_
  show Finset.univ.fold max (Ideal.ofBits .f32 0xFF800000#32) _ = _
  rw [bottom]
  unfold largest
  congr 1
  funext (l : Fin 128)
  show (fun x : EReal => max x (-x)) (L.m k q.val _) = _
  rw [show reduces_S4x8x128_S4x8.lift (ix2 i j) l = ix3 i j l from by
      funext k
      match k with
      | ⟨0, _⟩ => rfl
      | ⟨1, _⟩ => rfl
      | ⟨2, _⟩ => rfl,
    m_at L k q.val i j l r (column q l) hr rfl]

/-- The word of an element's code. -/
theorem mWord_at (l : Fin 128) : (mWord (L.m k q.val) (ix2 (tileRow i j) l)).setWidth 8 = (kernelCode L r q l).setWidth 8 := by
  unfold mWord roundWord
  show (Ideal.fptosi 32 (Ideal.liftRound Ideal.roundHalfEven
    ((shapeCast S32x128 _ shapeCasts_S4x8x128_S32x128 (ix2 (tileRow i j) l) : EReal) - Ideal.ofBits .f32 0x4B400000#32)) + 1262485504#32).setWidth 8 = _
  rw [low_byte, shapeCast_apply _ _ _ (ix3 i j l) (by
    rw [Shape.rowMajor_val_three, Shape.rowMajor_val_two]
    show (i.val * 8 + j.val) * 128 + l.val = (8 * i.val + j.val) * 128 + l.val
    omega)]
  show (Ideal.fptosi 32 (Ideal.liftRound Ideal.roundHalfEven
    (min (Ideal.ofBits .f32 0x40E00000#32) (max (Ideal.ofBits .f32 0xC0E00000#32)
      ((L.m k q.val (ix3 i j l) : EReal) * Ideal.rsqrt (max (max (L.m k q.val (ix3 i j l) : EReal) (-(L.m k q.val (ix3 i j l) : EReal)))
          (Named.named κ "tiny" 0x00800000#32 : Ideal .f32))
        * broadcastTo S4x8x128 _ broadcasts_S4x8x1_S4x8x128 (ix3 i j l)))
      + Ideal.ofBits .f32 0x4B400000#32 - Ideal.ofBits .f32 0x4B400000#32))).setWidth 8 = _
  rw [broadcastTo_apply _ _ _ (ix3 i j (0 : Fin 1)) (fun a => by match a with | ⟨0, _⟩ => rfl | ⟨1, _⟩ => rfl | ⟨2, _⟩ => rfl)]
  show (Ideal.fptosi 32 (Ideal.liftRound Ideal.roundHalfEven
    (min (Ideal.ofBits .f32 0x40E00000#32) (max (Ideal.ofBits .f32 0xC0E00000#32)
      ((L.m k q.val (ix3 i j l) : EReal) * Ideal.rsqrt (max (max (L.m k q.val (ix3 i j l) : EReal) (-(L.m k q.val (ix3 i j l) : EReal)))
          (Named.named κ "tiny" 0x00800000#32 : Ideal .f32))
        * (Ideal.ofBits .f32 0x40E00000#32 * Ideal.rsqrt (max (mMax (L.m k q.val) (ix3 i j (0 : Fin 1)) : EReal)
          (Named.named κ "tiny" 0x00800000#32 : Ideal .f32)))))
      + Ideal.ofBits .f32 0x4B400000#32 - Ideal.ofBits .f32 0x4B400000#32))).setWidth 8 = _
  rw [mMax_at L k q i j r hr, m_at L k q.val i j l r (column q l) hr rfl, named_tiny, seven, minus_seven, rounding]
  exact congrArg (BitVec.setWidth 8) (code_eq _ _ (le_largest L r q l))

end

theorem packed_low {a b a' b' : BitVec 32} (h₁ : a.setWidth 8 = a'.setWidth 8) (h₂ : b.setWidth 8 = b'.setWidth 8) :
    packed a b = packed a' b' := by
  rw [← packed_bytes, ← packed_bytes, h₁, h₂]

/-- The block of the column whose code a byte holds. -/
def byteBlock (y : Fin 2048) : Fin 32 := ⟨y.val / 64, by omega⟩

/-- A byte of the packed codes. -/
theorem outM_apply (L : Loads Ideal) (r : Fin 128) (y : Fin 2048) :
    outM L (ix2 r y) = packed (kernelCode L r (byteBlock y) (lowLane (Fin.ofNat 128 y.val)))
      (kernelCode L r (byteBlock y) (highLane (Fin.ofNat 128 y.val))) := by
  have hy := y.isLt
  show packBlock (mWord (L.m (r.val / 32) (2 * (y.val / 128)))) (mWord (L.m (r.val / 32) (2 * (y.val / 128) + 1)))
    (ix2 (Fin.ofNat 32 r.val) (Fin.ofNat 128 y.val)) = _
  rw [show (Fin.ofNat 32 r.val) = tileRow ⟨r.val % 32 / 8, by omega⟩ ⟨r.val % 8, by omega⟩ from
    Fin.ext (by show r.val % 32 = 8 * (r.val % 32 / 8) + r.val % 8; omega), packBlock_apply]
  have e : (if (Fin.ofNat 128 y.val).val < 64 then mWord (L.m (r.val / 32) (2 * (y.val / 128)))
      else mWord (L.m (r.val / 32) (2 * (y.val / 128) + 1))) = mWord (L.m (r.val / 32) (byteBlock y).val) := by
    by_cases h : (Fin.ofNat 128 y.val).val < 64
    · rw [if_pos h]
      have h' : y.val % 128 < 64 := h
      rw [show 2 * (y.val / 128) = (byteBlock y).val by show _ = y.val / 64; omega]
    · rw [if_neg h]
      have h' : ¬ y.val % 128 < 64 := h
      rw [show 2 * (y.val / 128) + 1 = (byteBlock y).val by show _ = y.val / 64; omega]
  rw [e]
  have hr : r.val = 32 * (r.val / 32) + (8 * (r.val % 32 / 8) + r.val % 8) := by omega
  exact packed_low (mWord_at L _ _ ⟨r.val % 32 / 8, by omega⟩ ⟨r.val % 8, by omega⟩ r hr _)
    (mWord_at L _ _ ⟨r.val % 32 / 8, by omega⟩ ⟨r.val % 8, by omega⟩ r hr _)

end Cert.MainIdeal.Hand

end
-- ==== Proof.Results.lean ====
/-
  The result arrays of the kernel after its run are those of the reference.
-/
module

public import proofs.«01_k».proof.Proof.PointValues
public import proofs.«01_k».proof.Proof.PointPacked

@[expose] public section

set_option maxRecDepth 16384

noncomputable section

namespace Cert.MainIdeal.Hand

open Cert.MainIdeal Cert.MainIdeal.Gen
open Idealize.ShloMosaic Idealize.ShloMosaic.TcCoe Idealize.ShloMosaic.Tactic
open Idealize.ShloMosaic.ValueIdx Cert.Scalars
open Cert.ReferenceIdeal.Hand (flatRow result0 result1 result2 result3 elemCode codeColumn packed scaleOf)
open Cert.ReferenceIdeal.Read (val_main_v104 val_main_v106 val_main_v119 val_main_v120)

theorem index_12 : ∀ t : Fin cfg0.N, win0_12.index t = ![t.val, 0] := (by decide +kernel : ∀ t : Fin grid0.N, _)
theorem index_13 : ∀ t : Fin cfg0.N, win0_13.index t = ![t.val, 0] := (by decide +kernel : ∀ t : Fin grid0.N, _)
theorem index_14 : ∀ t : Fin cfg0.N, win0_14.index t = ![t.val, 0] := (by decide +kernel : ∀ t : Fin grid0.N, _)
theorem index_15 : ∀ t : Fin cfg0.N, win0_15.index t = ![t.val, 0] := (by decide +kernel : ∀ t : Fin grid0.N, _)

variable (m : (ℓ : Loc nD τ sig) → Buf (Elt Ideal) ℓ) (c : Dev nD)

/-- A grid point's row is its layer's. -/
theorem row_eq (t : Fin cfg0.N) (r : Fin 128) : rowAt t r = flatRow (layerAt t) (placeAt t r) :=
  Fin.ext (by show 128 * t.val + r.val = 5504 * (t.val / 43) + (128 * (t.val % 43) + r.val); omega)

theorem pair_eq {A B : ℕ} (y : (⟨2, ![A, B]⟩ : Shape).Idx) : y = ix2 (y 0) (y 1) := by
  funext k
  match k with
  | ⟨0, _⟩ => rfl
  | ⟨1, _⟩ => rfl

/-- A grid point's block of the new scales is the reference's. -/
theorem block_scale (t : Fin cfg0.N) (r : Fin 128) (d : Fin 32) : outS (point m c t) (ix2 r d)
    = val_main_v120 (F := Ideal) (argG m c) (argM m c) (argMs m c) (ix2 (rowAt t r) d) := by
  rw [row_eq, result2]
  exact scale_point m c t r d

/-- The new scales of the first moments. -/
theorem final_scale : (dats m 0 c).arrAt 15 cfg0.N = val_main_v120 (F := Ideal) (argG m c) (argM m c) (argMs m c) := by
  refine (dats m 0 c).arrAt_eq_of_covers 15 _ (by decide +kernel) fun t hf y => ?_
  blk_simp
  have e : (win0_15.blk t).view.emb y = ix2 (rowAt t (y 0)) (y 1) := by
    blk_ext [index_15 t]
    exact congrArg (· + (y 0).val) (Nat.mul_comm t.val 128)
  rw [after_15, e]
  exact (congrArg (outS (point m c t)) (pair_eq y)).trans (block_scale m c t (y 0) (y 1))

/-- The code of an element is the plain formula's. -/
theorem code_point (t : Fin cfg0.N) (r : Fin 128) (q : Fin 32) (l : Fin 128) : kernelCode (point m c t) r q l
    = elemCode (argG m c) (argM m c) (argMs m c) (layerAt t) (placeAt t r) (column q l) := by
  have e : largest (point m c t) r q * ((1 / 10 : ℝ) : EReal)
      = scaleOf (argG m c) (argM m c) (argMs m c) (layerAt t) (placeAt t r) q :=
    (outS_apply (point m c t) r q).symm.trans (scale_point m c t r q)
  unfold kernelCode elemCode
  rw [e, moment_point, show Cert.ReferenceIdeal.Hand.blockOf (column q l) = q from
    Fin.ext (by show (128 * q.val + l.val) / 128 = q.val; have := l.isLt; omega)]

/-- A grid point's block of the packed codes is the reference's. -/
theorem block_codes (t : Fin cfg0.N) (r : Fin 128) (y : Fin 2048) : outM (point m c t) (ix2 r y)
    = val_main_v119 (F := Ideal) (argG m c) (argM m c) (argMs m c) (ix2 (rowAt t r) y) := by
  have hy := y.isLt
  have e₀ : column (byteBlock y) (lowLane (Fin.ofNat 128 y.val)) = codeColumn false y :=
    Fin.ext (by show 128 * (y.val / 64) + y.val % 128 % 64 = y.val / 64 * 128 + 0 + y.val % 64; omega)
  have e₁ : column (byteBlock y) (highLane (Fin.ofNat 128 y.val)) = codeColumn true y :=
    Fin.ext (by show 128 * (y.val / 64) + (64 + y.val % 128 % 64) = y.val / 64 * 128 + 64 + y.val % 64; omega)
  rw [row_eq, result3, outM_apply, code_point, code_point, e₀, e₁]

/-- The packed codes of the first moments. -/
theorem final_codes : (dats m 0 c).arrAt 14 cfg0.N = val_main_v119 (F := Ideal) (argG m c) (argM m c) (argMs m c) := by
  refine (dats m 0 c).arrAt_eq_of_covers 14 _ (by decide +kernel) fun t hf y => ?_
  blk_simp
  have e : (win0_14.blk t).view.emb y = ix2 (rowAt t (y 0)) (y 1) := by
    blk_ext [index_14 t]
    exact congrArg (· + (y 0).val) (Nat.mul_comm t.val 128)
  rw [after_14, e]
  exact (congrArg (outM (point m c t)) (pair_eq y)).trans (block_codes m c t (y 0) (y 1))

variable (hr : ∀ i, 0 ≤ argR m c i) (hc : ∀ i, 0 ≤ argC m c i) (ht : ∀ i, 1 ≤ (argT m c i).toInt)
include hr hc ht

/-- A grid point's block of the updates is the reference's. -/
theorem block_update (t : Fin cfg0.N) (r : Fin 128) (d : Fin 4096) : outU (point m c t) (ix2 r d)
    = val_main_v106 (F := Ideal) (argG m c) (argM m c) (argMs m c) (argV m c) (argR m c) (argC m c) (argT m c)
        (ix2 (rowAt t r) d) := by
  rw [row_eq, result1]
  exact (outU_apply _ r d).trans (update_point m c t r d hr hc ht)

/-- The updates. -/
theorem final_update : (dats m 0 c).arrAt 13 cfg0.N
    = val_main_v106 (F := Ideal) (argG m c) (argM m c) (argMs m c) (argV m c) (argR m c) (argC m c) (argT m c) := by
  refine (dats m 0 c).arrAt_eq_of_covers 13 _ (by decide +kernel) fun t hf y => ?_
  blk_simp
  have e : (win0_13.blk t).view.emb y = ix2 (rowAt t (y 0)) (y 1) := by
    blk_ext [index_13 t]
    exact congrArg (· + (y 0).val) (Nat.mul_comm t.val 128)
  rw [after_13, e]
  exact (congrArg (outU (point m c t)) (pair_eq y)).trans (block_update m c hr hc ht t (y 0) (y 1))

/-- A grid point's block of the new weights is the reference's. -/
theorem block_weight (t : Fin cfg0.N) (r : Fin 128) (d : Fin 4096) : outP (point m c t) (ix2 r d)
    = val_main_v104 (F := Ideal) (argW m c) (argG m c) (argM m c) (argMs m c) (argV m c) (argR m c) (argC m c) (argT m c)
        (argLr m c) (argWd m c) (ix2 (rowAt t r) d) := by
  rw [row_eq, result0]
  refine (outP_apply _ r d).trans ?_
  rw [weight_point, update_point m c t r d hr hc ht]

/-- The new weights. -/
theorem final_weight : (dats m 0 c).arrAt 12 cfg0.N
    = val_main_v104 (F := Ideal) (argW m c) (argG m c) (argM m c) (argMs m c) (argV m c) (argR m c) (argC m c) (argT m c)
        (argLr m c) (argWd m c) := by
  refine (dats m 0 c).arrAt_eq_of_covers 12 _ (by decide +kernel) fun t hf y => ?_
  blk_simp
  have e : (win0_12.blk t).view.emb y = ix2 (rowAt t (y 0)) (y 1) := by
    blk_ext [index_12 t]
    exact congrArg (· + (y 0).val) (Nat.mul_comm t.val 128)
  rw [after_12, e]
  exact (congrArg (outP (point m c t)) (pair_eq y)).trans (block_weight m c hr hc ht t (y 0) (y 1))

end Cert.MainIdeal.Hand

end
-- ==== Proof.lean ====
/-
  The claims of the main call of the optimiser kernel and of its reference: each program runs to its end and leaves its
  arguments alone, the kernel at extended reals is the kernel as printed with the named constants read exactly, and the new
  weights, the updates, and the new codes and scales of the first moments are those of the reference.
-/
module

public import proofs.«01_k».proof.Defs
public import proofs.«01_k».proof.Proof.Region
public import proofs.«01_k».proof.Proof.RegionIdeal
public import proofs.«01_k».proof.Proof.Results
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- The kernel as printed runs to its end with its counters at zero and its arguments kept. -/
theorem quiescent_main : quiescent_Main (hMain := Cert.Main.Gen.facts) := fun m ρ _ =>
  (θ_run _ _ _).mono (fun _ h => ⟨fun c => Cert.Main.Hand.args_kept h.1 c, h.2⟩) (Cert.Main.Hand.run_main m ρ)

/-- So does the kernel with its named constants read exactly. -/
theorem quiescent_ideal : quiescent_MainIdeal (hMainIdeal := Cert.MainIdeal.Gen.facts) := fun m ρ _ =>
  (θ_run _ _ _).mono (fun _ h => ⟨fun c => Cert.MainIdeal.Hand.args_kept h.1 c, h.2⟩) (Cert.MainIdeal.Hand.run_main m ρ)

/-- So does the reference. -/
theorem quiescent_reference : quiescent_ReferenceIdeal (hReferenceIdeal := Cert.ReferenceIdeal.Gen.facts) := by
  intro m ρ _
  refine (θ_run _ _ _).mono (fun r h => ?_) (Cert.ReferenceIdeal.Value.run (F := Ideal) m ρ)
  exact ⟨fun c => (h c).2.2.2.2, sem_eq_zero_of_no_sems (by decide) r.2⟩

/-- Each named constant of the kernel stands for the value the certificate gives it. -/
theorem preserves : preserves_Main_MainIdeal := by
  refine ⟨?_, ?_, ?_, ?_, ?_⟩ <;> exact IdealRules.named_const.statement _ _ _ _ _ rfl

theorem pre_facts : Cert.Pre_stats_nonnegative.Facts := ⟨by decide, by decide, by decide⟩

/-- What the precondition says of the scales of the second moments and of the steps. -/
theorem pre_reads {m : (ℓ : Loc Cert.MainIdeal.nD Cert.MainIdeal.τ Cert.MainIdeal.sig) → Buf (Elt Ideal) ℓ}
    (h : Pre_MainIdeal_stats_nonnegative (hPre_stats_nonnegative := pre_facts) m) (c : Dev Cert.MainIdeal.nD) :
    (∀ i, 0 ≤ Cert.MainIdeal.Hand.argR m c i) ∧ (∀ i, 0 ≤ Cert.MainIdeal.Hand.argC m c i)
      ∧ ∀ i, 1 ≤ (Cert.MainIdeal.Hand.argT m c i).toInt := by
  have bit : ∀ b : Bool, BitVec.ofBool b = 1#1 → b = true := by decide
  obtain ⟨h1, h2, h3⟩ := h c
  refine ⟨fun i => ?_, fun i => ?_, fun i => ?_⟩
  · have e : BitVec.ofBool (decide (Ideal.ofBits .f32 0x00000000#32 ≤ Cert.MainIdeal.Hand.argR m c i)) = 1#1 := congrFun h1 i
    rw [Ideal.ofBits_zero_f32] at e
    exact of_decide_eq_true (bit _ e)
  · have e : BitVec.ofBool (decide (Ideal.ofBits .f32 0x00000000#32 ≤ Cert.MainIdeal.Hand.argC m c i)) = 1#1 := congrFun h2 i
    rw [Ideal.ofBits_zero_f32] at e
    exact of_decide_eq_true (bit _ e)
  · have e : BitVec.ofBool ((1#32).sle (Cert.MainIdeal.Hand.argT m c i)) = 1#1 := congrFun h3 i
    exact of_decide_eq_true (bit _ e)

/-- The kernel's new weights, updates, and new codes and scales of the first moments are the reference's. -/
theorem algebraic : algebraic_MainIdeal_ReferenceIdeal_pre_stats_nonnegative (hMainIdeal := Cert.MainIdeal.Gen.facts)
    (hReferenceIdeal := Cert.ReferenceIdeal.Gen.facts) (hPre_stats_nonnegative := pre_facts) := by
  intro m g m' g' hpre hargs
  refine ⟨fun c => Cert.ReferenceIdeal.Read.val_main_v104 (F := Ideal) (Cert.MainIdeal.Hand.argW m c) (Cert.MainIdeal.Hand.argG m c)
      (Cert.MainIdeal.Hand.argM m c) (Cert.MainIdeal.Hand.argMs m c) (Cert.MainIdeal.Hand.argV m c) (Cert.MainIdeal.Hand.argR m c)
      (Cert.MainIdeal.Hand.argC m c) (Cert.MainIdeal.Hand.argT m c) (Cert.MainIdeal.Hand.argLr m c) (Cert.MainIdeal.Hand.argWd m c),
    fun c => Cert.ReferenceIdeal.Read.val_main_v106 (F := Ideal) (Cert.MainIdeal.Hand.argG m c)
      (Cert.MainIdeal.Hand.argM m c) (Cert.MainIdeal.Hand.argMs m c) (Cert.MainIdeal.Hand.argV m c) (Cert.MainIdeal.Hand.argR m c)
      (Cert.MainIdeal.Hand.argC m c) (Cert.MainIdeal.Hand.argT m c),
    fun c => Cert.ReferenceIdeal.Read.val_main_v119 (F := Ideal) (Cert.MainIdeal.Hand.argG m c) (Cert.MainIdeal.Hand.argM m c)
      (Cert.MainIdeal.Hand.argMs m c),
    fun c => Cert.ReferenceIdeal.Read.val_main_v120 (F := Ideal) (Cert.MainIdeal.Hand.argG m c) (Cert.MainIdeal.Hand.argM m c)
      (Cert.MainIdeal.Hand.argMs m c), ?_, ?_⟩
  · refine (θ_run _ _ _).mono (fun r h c => ?_) (Cert.MainIdeal.Hand.run_main m g)
    obtain ⟨hr, hc, ht⟩ := pre_reads hpre c
    refine ⟨?_, ?_, ?_, ?_, Cert.MainIdeal.Hand.args_kept h.1 c⟩
    · exact ((Pipeline.Dat.toRForget_arrAt_iff _ (fgt := Cert.MainIdeal.Hand.fgt) (w := 12) (by decide) _ _).mp ((h.1 c).1 12)).trans
        (Cert.MainIdeal.Hand.final_weight m c hr hc ht)
    · exact ((Pipeline.Dat.toRForget_arrAt_iff _ (fgt := Cert.MainIdeal.Hand.fgt) (w := 13) (by decide) _ _).mp ((h.1 c).1 13)).trans
        (Cert.MainIdeal.Hand.final_update m c hr hc ht)
    · exact ((Pipeline.Dat.toRForget_arrAt_iff _ (fgt := Cert.MainIdeal.Hand.fgt) (w := 14) (by decide) _ _).mp ((h.1 c).1 14)).trans
        (Cert.MainIdeal.Hand.final_codes m c)
    · exact ((Pipeline.Dat.toRForget_arrAt_iff _ (fgt := Cert.MainIdeal.Hand.fgt) (w := 15) (by decide) _ _).mp ((h.1 c).1 15)).trans
        (Cert.MainIdeal.Hand.final_scale m c)
  · refine (θ_run _ _ _).mono (fun r h c => ?_) (Cert.ReferenceIdeal.Value.run (F := Ideal) m' g')
    obtain ⟨e0, e1, e2, e3, e4, e5, e6, e7, e8, e9, e10, e11⟩ := hargs c
    refine ⟨(h c).1.trans ((Cert.ReferenceIdeal.Read.val_main_v104_eq m' c).trans ?_),
      (h c).2.1.trans ((Cert.ReferenceIdeal.Read.val_main_v106_eq m' c).trans ?_),
      (h c).2.2.1.trans ((Cert.ReferenceIdeal.Read.val_main_v119_eq m' c).trans ?_),
      (h c).2.2.2.1.trans ((Cert.ReferenceIdeal.Read.val_main_v120_eq _ _ _).trans ?_), (h c).2.2.2.2⟩
    · rw [e0, e1, e2, e3, e4, e5, e6, e9, e10, e11]
    · rw [e1, e2, e3, e4, e5, e6, e9]
    · rw [e1, e2, e3]
    · rw [e1, e2, e3]

theorem claim : Cert.Claim :=
  ⟨Cert.Main.Gen.facts, Cert.MainIdeal.Gen.facts, Cert.ReferenceIdeal.Gen.facts, pre_facts,
    quiescent_main, quiescent_ideal, fun m ρ _ => quiescent_ideal m ρ trivial, quiescent_reference,
    fun m ρ _ => quiescent_reference m ρ trivial, preserves, algebraic⟩

end Cert.Proof

end
